-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_have_area [hPre_boxes_have_area : Cert.Pre_boxes_have_area.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_have_area.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_have_area [hPre_boxes_have_area : Cert.Pre_boxes_have_area.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_have_area.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_boxes_have_area [hKernelIdeal : Cert.KernelIdeal.Facts] [hPre_boxes_have_area : Cert.Pre_boxes_have_area.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_have_area m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_boxes_have_area [hReferenceIdeal : Cert.ReferenceIdeal.Facts] [hPre_boxes_have_area : Cert.Pre_boxes_have_area.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_have_area m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_boxes_have_area [hKernelIdeal : Cert.KernelIdeal.Facts] [hReferenceIdeal : Cert.ReferenceIdeal.Facts] [hPre_boxes_have_area : Cert.Pre_boxes_have_area.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_have_area m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_boxes_have_area : Cert.Pre_boxes_have_area.Facts),
    quiescent_Kernel (hKernel := hKernel)
    ∧ quiescent_KernelIdeal (hKernelIdeal := hKernelIdeal)
    ∧ quiescent_KernelIdeal_pre_boxes_have_area (hKernelIdeal := hKernelIdeal) (hPre_boxes_have_area := hPre_boxes_have_area)
    ∧ quiescent_ReferenceIdeal (hReferenceIdeal := hReferenceIdeal)
    ∧ quiescent_ReferenceIdeal_pre_boxes_have_area (hReferenceIdeal := hReferenceIdeal) (hPre_boxes_have_area := hPre_boxes_have_area)
    ∧ preserves_Kernel_KernelIdeal
    ∧ algebraic_KernelIdeal_ReferenceIdeal_pre_boxes_have_area (hKernelIdeal := hKernelIdeal) (hReferenceIdeal := hReferenceIdeal) (hPre_boxes_have_area := hPre_boxes_have_area)
-- ==== Pre_boxes_have_area.lean ====
abbrev S5000x4 : Shape := ⟨2, ![5000, 4]⟩
abbrev S5000 : Shape := ⟨1, ![5000]⟩
abbrev S5000x1 : Shape := ⟨2, ![5000, 1]⟩
abbrev S_ : Shape := ⟨0, ![]⟩

class Facts : Prop where
  slices_S5000x4_S5000x1_0_2 : S5000x4.Slices ![0, 2] S5000x1
  shapeCasts_S5000x1_S5000 : S5000x1.ShapeCasts S5000
  slices_S5000x4_S5000x1_0_0 : S5000x4.Slices ![0, 0] S5000x1
  slices_S5000x4_S5000x1_0_3 : S5000x4.Slices ![0, 3] S5000x1
  slices_S5000x4_S5000x1_0_1 : S5000x4.Slices ![0, 1] S5000x1
  bcast_S_S5000 : S_.BroadcastsInDim S5000 (![] : Fin 0 → Fin S5000.rank)
  reducesTo_S5000_S_d0 : S5000.ReducesTo [0] S_
  h_S_ : 0 < S_.numel

variable [Facts]

def fn {F : FTy → Type} [FloatOps F] (main_arg0 : FVec F S5000x4 .f32) (main_arg1 : FVec F S5000 .f32) : IVec S_ 1 :=
  let main_v0 : FVec F S5000x1 .f32 := (extractStridedSlice S5000x1 ![0, 2] · slices_S5000x4_S5000x1_0_2) main_arg0
  let main_v1 : FVec F S5000 .f32 := shapeCast S5000 main_v0 shapeCasts_S5000x1_S5000
  let main_v2 : FVec F S5000x1 .f32 := (extractStridedSlice S5000x1 ![0, 0] · slices_S5000x4_S5000x1_0_0) main_arg0
  let main_v3 : FVec F S5000 .f32 := shapeCast S5000 main_v2 shapeCasts_S5000x1_S5000
  let main_v4 : FVec F S5000 .f32 := subf main_v1 main_v3
  let main_v5 : FVec F S5000x1 .f32 := (extractStridedSlice S5000x1 ![0, 3] · slices_S5000x4_S5000x1_0_3) main_arg0
  let main_v6 : FVec F S5000 .f32 := shapeCast S5000 main_v5 shapeCasts_S5000x1_S5000
  let main_v7 : FVec F S5000x1 .f32 := (extractStridedSlice S5000x1 ![0, 1] · slices_S5000x4_S5000x1_0_1) main_arg0
  let main_v8 : FVec F S5000 .f32 := shapeCast S5000 main_v7 shapeCasts_S5000x1_S5000
  let main_v9 : FVec F S5000 .f32 := subf main_v6 main_v8
  let main_v10 : FVec F S5000 .f32 := mulf main_v4 main_v9
  let main_cst : FVec F S_ .f32 := constant S_ .f32 0x322BCC77#32
  let main_v11 : FVec F S5000 .f32 := broadcastInDim S5000 ![] bcast_S_S5000 main_cst
  let main_v12 : IVec S5000 1 := cmpf .oge main_v10 main_v11
  let main_cst_0 : FVec F S_ .f32 := constant S_ .f32 0x7F800000#32
  let main_v13 : FVec F S5000 .f32 := broadcastInDim S5000 ![] bcast_S_S5000 main_cst_0
  let main_v14 : IVec S5000 1 := cmpf .olt main_v10 main_v13
  let main_v15 : IVec S5000 1 := andi main_v12 main_v14
  let main_c : IVec S_ 1 := constantI S_ 1 1#1
  let main_v16 : IVec S_ 1 := (fun x v => Host.reduce IntOp.andi x v reducesTo_S5000_S_d0 h_S_) main_v15 main_c
  main_v16
-- ==== Kernel.lean ====
abbrev S5000x4 : Shape := ⟨2, ![5000, 4]⟩
abbrev S5000 : Shape := ⟨1, ![5000]⟩
abbrev S1x8 : Shape := ⟨2, ![1, 8]⟩
abbrev S15 : Shape := ⟨1, ![15]⟩
abbrev S5000x1 : Shape := ⟨2, ![5000, 1]⟩
abbrev S_ : Shape := ⟨0, ![]⟩
abbrev S5000x8 : Shape := ⟨2, ![5000, 8]⟩
abbrev S120x8 : Shape := ⟨2, ![120, 8]⟩
abbrev S5120x8 : Shape := ⟨2, ![5120, 8]⟩
abbrev S5120x1 : Shape := ⟨2, ![5120, 1]⟩
abbrev S5120 : Shape := ⟨1, ![5120]⟩
abbrev S5x1x1024 : Shape := ⟨3, ![5, 1, 1024]⟩
abbrev S1024x8 : Shape := ⟨2, ![1024, 8]⟩
abbrev S1 : Shape := ⟨1, ![1]⟩
abbrev S1024x1 : Shape := ⟨2, ![1024, 1]⟩
abbrev S8x1024 : Shape := ⟨2, ![8, 1024]⟩
abbrev S1x1024 : Shape := ⟨2, ![1, 1024]⟩
abbrev S1024x1024 : Shape := ⟨2, ![1024, 1024]⟩
abbrev S1x1x1024 : Shape := ⟨3, ![1, 1, 1024]⟩

abbrev nBuf : Space → Nat
  | .hbm => 35
  | .vmem => 9
  | .smem => 2
  | _ => 0

abbrev bufTy : (tb : Table) → Fin (tcTables nBuf tb) → BufTy
  | .hbm, ⟨0, _⟩ => ⟨S5000x4, .f32⟩
  | .hbm, ⟨1, _⟩ => ⟨S5000, .f32⟩
  | .hbm, ⟨2, _⟩ => ⟨S1x8, .f32⟩
  | .hbm, ⟨3, _⟩ => ⟨S5000x1, .f32⟩
  | .hbm, ⟨4, _⟩ => ⟨S5000, .f32⟩
  | .hbm, ⟨5, _⟩ => ⟨S5000x1, .f32⟩
  | .hbm, ⟨6, _⟩ => ⟨S5000, .f32⟩
  | .hbm, ⟨7, _⟩ => ⟨S5000x1, .f32⟩
  | .hbm, ⟨8, _⟩ => ⟨S5000, .f32⟩
  | .hbm, ⟨9, _⟩ => ⟨S5000x1, .f32⟩
  | .hbm, ⟨10, _⟩ => ⟨S5000, .f32⟩
  | .hbm, ⟨11, _⟩ => ⟨S5000, .f32⟩
  | .hbm, ⟨12, _⟩ => ⟨S5000, .f32⟩
  | .hbm, ⟨13, _⟩ => ⟨S5000, .f32⟩
  | .hbm, ⟨14, _⟩ => ⟨S_, .f32⟩
  | .hbm, ⟨15, _⟩ => ⟨S5000, .f32⟩
  | .hbm, ⟨16, _⟩ => ⟨S_, .f32⟩
  | .hbm, ⟨17, _⟩ => ⟨S5000, .f32⟩
  | .hbm, ⟨18, _⟩ => ⟨S5000x1, .f32⟩
  | .hbm, ⟨19, _⟩ => ⟨S5000x1, .f32⟩
  | .hbm, ⟨20, _⟩ => ⟨S5000x1, .f32⟩
  | .hbm, ⟨21, _⟩ => ⟨S5000x1, .f32⟩
  | .hbm, ⟨22, _⟩ => ⟨S5000x1, .f32⟩
  | .hbm, ⟨23, _⟩ => ⟨S5000x1, .f32⟩
  | .hbm, ⟨24, _⟩ => ⟨S5000x1, .f32⟩
  | .hbm, ⟨25, _⟩ => ⟨S5000x1, .f32⟩
  | .hbm, ⟨26, _⟩ => ⟨S5000x8, .f32⟩
  | .hbm, ⟨27, _⟩ => ⟨S120x8, .f32⟩
  | .hbm, ⟨28, _⟩ => ⟨S5120x8, .f32⟩
  | .hbm, ⟨29, _⟩ => ⟨S5120x1, .f32⟩
  | .hbm, ⟨30, _⟩ => ⟨S5120, .f32⟩
  | .hbm, ⟨31, _⟩ => ⟨S5x1x1024, .f32⟩
  | .hbm, ⟨32, _⟩ => ⟨S5x1x1024, .f32⟩
  | .hbm, ⟨33, _⟩ => ⟨S5120, .f32⟩
  | .hbm, ⟨34, _⟩ => ⟨S5000, .f32⟩
  | .local _ .vmem, ⟨0, _⟩ => ⟨S1024x8, .f32⟩
  | .local _ .vmem, ⟨1, _⟩ => ⟨S1024x8, .f32⟩
  | .local _ .vmem, ⟨2, _⟩ => ⟨S1024x8, .f32⟩
  | .local _ .vmem, ⟨3, _⟩ => ⟨S1024x8, .f32⟩
  | .local _ .vmem, ⟨4, _⟩ => ⟨S5x1x1024, .f32⟩
  | .local _ .vmem, ⟨5, _⟩ => ⟨S5x1x1024, .f32⟩
  | .local _ .vmem, ⟨6, _⟩ => ⟨S1024x1, .f32⟩
  | .local _ .vmem, ⟨7, _⟩ => ⟨S5x1x1024, .f32⟩
  | .local _ .vmem, ⟨8, _⟩ => ⟨S5x1x1024, .f32⟩
  | .local _ .smem, ⟨0, _⟩ => ⟨S15, .i32⟩
  | .local _ .smem, ⟨1, _⟩ => ⟨S15, .i32⟩
  | _, _ => ⟨S5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![15], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v3 : BitVec 32) : Fin 3 → Nat :=
  let v84 : Index := Scalar.indexCast v3
  let c0_25 : Index := 0#32
  let c0_26 : Index := 0#32
  ![v84.toNat, 0, 0]
def k0_cond3 (v1 : BitVec 32) (v3 : BitVec 32) : BitVec 1 :=
  let v68 : BitVec 1 := Scalar.cmpi .slt v3 v1
  let v69 : BitVec 32 := Scalar.extui v68
  let c0_i32_19 : BitVec 32 := 0#32
  let v70 : BitVec 1 := Scalar.cmpi .ne v69 c0_i32_19
  v70

def k0_off3 (v1 : BitVec 32) : Fin 3 → Nat :=
  let v79 : Index := Scalar.indexCast v1
  let c0_24 : Index := 0#32
  let c0_25 : Index := 0#32
  ![v79.toNat, 0, 0]
def k0_cond4 (v1 : BitVec 32) (v3 : BitVec 32) : BitVec 1 :=
  let v71 : BitVec 1 := Scalar.cmpi .eq v3 v1
  let v72 : BitVec 32 := Scalar.extui v71
  let c0_i32_20 : BitVec 32 := 0#32
  let v73 : BitVec 1 := Scalar.cmpi .ne v72 c0_i32_20
  v73

def k0_chk1 (v1 : BitVec 32) (v3 : BitVec 32) : Prop :=
  (∀ (k0_h3 : k0_cond3 v1 v3 = 1#1), ∀ a, (k0_off2 v3) a + S1x1x1024.size a ≤ S5x1x1024.size a) ∧
  (∀ (k0_h4 : k0_cond4 v1 v3 = 1#1), ∀ a, (k0_off3 v1) a + S1x1x1024.size a ≤ S5x1x1024.size a)
theorem k0_off2_inb : ∀ (v1 : BitVec 32) (v3 : BitVec 32) (k0_hw1 : k0_chk1 v1 v3), ∀ (k0_h3 : k0_cond3 v1 v3 = 1#1), ∀ a, (k0_off2 v3) a + S1x1x1024.size a ≤ S5x1x1024.size a := fun v1 v3 k0_hw1 k0_h3 => k0_hw1.1 k0_h3
theorem k0_off3_inb : ∀ (v1 : BitVec 32) (v3 : BitVec 32) (k0_hw1 : k0_chk1 v1 v3), ∀ (k0_h4 : k0_cond4 v1 v3 = 1#1), ∀ a, (k0_off3 v1) a + S1x1x1024.size a ≤ S5x1x1024.size a := fun v1 v3 k0_hw1 k0_h4 => k0_hw1.2 k0_h4

def k0_cond5 (i : grid0.Coords) : BitVec 1 :=
  let arg0 : BitVec 32 := BitVec.ofNat 32 (i 0).val
  let c14_i32 : BitVec 32 := 14#32
  let v74 : BitVec 1 := Scalar.cmpi .eq arg0 c14_i32
  let v75 : BitVec 32 := Scalar.extui v74
  let c0_i32_21 : BitVec 32 := 0#32
  let v76 : BitVec 1 := Scalar.cmpi .ne v75 c0_i32_21
  v76

def cc0_transform_0 (k0_off1_inb : ∀ i : grid0.Coords, ∀ a, (k0_off1 i) a + S1.size a ≤ S15.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S15) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S15.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S15) ![v0.toNat] S1.size (k0_off1_inb i)) numel1_S1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S5000x4 : Shape := ⟨2, ![5000, 4]⟩
abbrev S5000 : Shape := ⟨1, ![5000]⟩
abbrev S5000x1 : Shape := ⟨2, ![5000, 1]⟩
abbrev S1x5000 : Shape := ⟨2, ![1, 5000]⟩
abbrev S5000x5000 : Shape := ⟨2, ![5000, 5000]⟩
abbrev S_ : Shape := ⟨0, ![]⟩

abbrev nBuf : Space → Nat
  | .hbm => 103
  | .vmem => 0
  | .smem => 0
  | _ => 0

abbrev bufTy : (tb : Table) → Fin (tcTables nBuf tb) → BufTy
  | .hbm, ⟨0, _⟩ => ⟨S5000x4, .f32⟩
  | .hbm, ⟨1, _⟩ => ⟨S5000, .f32⟩
  | .hbm, ⟨2, _⟩ => ⟨S5000x1, .f32⟩
  | .hbm, ⟨3, _⟩ => ⟨S5000, .f32⟩
  | .hbm, ⟨4, _⟩ => ⟨S5000x1, .f32⟩
  | .hbm, ⟨5, _⟩ => ⟨S5000, .f32⟩
  | .hbm, ⟨6, _⟩ => ⟨S5000x1, .f32⟩
  | .hbm, ⟨7, _⟩ => ⟨S5000, .f32⟩
  | .hbm, ⟨8, _⟩ => ⟨S5000x1, .f32⟩
  | .hbm, ⟨9, _⟩ => ⟨S5000, .f32⟩
  | .hbm, ⟨10, _⟩ => ⟨S5000, .f32⟩
  | .hbm, ⟨11, _⟩ => ⟨S5000, .f32⟩
  | .hbm, ⟨12, _⟩ => ⟨S5000, .f32⟩
  | .hbm, ⟨13, _⟩ => ⟨S5000x1, .f32⟩
  | .hbm, ⟨14, _⟩ => ⟨S1x5000, .f32⟩
  | .hbm, ⟨15, _⟩ => ⟨S5000x5000, .f32⟩
  | .hbm, ⟨16, _⟩ => ⟨S5000x5000, .f32⟩
  | .hbm, ⟨17, _⟩ => ⟨S5000x5000, .f32⟩
  | .hbm, ⟨18, _⟩ => ⟨S5000x1, .f32⟩
  | .hbm, ⟨19, _⟩ => ⟨S1x5000, .f32⟩
  | .hbm, ⟨20, _⟩ => ⟨S5000x5000, .f32⟩
  | .hbm, ⟨21, _⟩ => ⟨S5000x5000, .f32⟩
  | .hbm, ⟨22, _⟩ => ⟨S5000x5000, .f32⟩
  | .hbm, ⟨23, _⟩ => ⟨S5000x1, .f32⟩
  | .hbm, ⟨24, _⟩ => ⟨S1x5000, .f32⟩
  | .hbm, ⟨25, _⟩ => ⟨S5000x5000, .f32⟩
  | .hbm, ⟨26, _⟩ => ⟨S5000x5000, .f32⟩
  | .hbm, ⟨27, _⟩ => ⟨S5000x5000, .f32⟩
  | .hbm, ⟨28, _⟩ => ⟨S5000x1, .f32⟩
  | .hbm, ⟨29, _⟩ => ⟨S1x5000, .f32⟩
  | .hbm, ⟨30, _⟩ => ⟨S5000x5000, .f32⟩
  | .hbm, ⟨31, _⟩ => ⟨S5000x5000, .f32⟩
  | .hbm, ⟨32, _⟩ => ⟨S5000x5000, .f32⟩
  | .hbm, ⟨33, _⟩ => ⟨S5000x5000, .f32⟩
  | .hbm, ⟨34, _⟩ => ⟨S_, .f32⟩
  | .hbm, ⟨35, _⟩ => ⟨S_, .f32⟩
  | .hbm, ⟨36, _⟩ => ⟨S5000x5000, .f32⟩
  | .hbm, ⟨37, _⟩ => ⟨S5000x5000, .f32⟩
  | .hbm, ⟨38, _⟩ => ⟨S5000x5000, .f32⟩
  | .hbm, ⟨39, _⟩ => ⟨S_, .f32⟩
  | .hbm, ⟨40, _⟩ => ⟨S_, .f32⟩
  | .hbm, ⟨41, _⟩ => ⟨S5000x5000, .f32⟩
  | .hbm, ⟨42, _⟩ => ⟨S5000x5000, .f32⟩
  | .hbm, ⟨43, _⟩ => ⟨S5000x5000, .f32⟩
  | .hbm, ⟨44, _⟩ => ⟨S5000x1, .f32⟩
  | .hbm, ⟨45, _⟩ => ⟨S1x5000, .f32⟩
  | .hbm, ⟨46, _⟩ => ⟨S5000x5000, .f32⟩
  | .hbm, ⟨47, _⟩ => ⟨S5000x5000, .f32⟩
  | .hbm, ⟨48, _⟩ => ⟨S5000x5000, .f32⟩
  | .hbm, ⟨49, _⟩ => ⟨S5000x5000, .f32⟩
  | .hbm, ⟨50, _⟩ => ⟨S_, .f32⟩
  | .hbm, ⟨51, _⟩ => ⟨S5000x5000, .f32⟩
  | .hbm, ⟨52, _⟩ => ⟨S5000x5000, .f32⟩
  | .hbm, ⟨53, _⟩ => ⟨S5000x5000, .f32⟩
  | .hbm, ⟨54, _⟩ => ⟨S1x5000, .f32⟩
  | .hbm, ⟨55, _⟩ => ⟨S5000x1, .f32⟩
  | .hbm, ⟨56, _⟩ => ⟨S5000x5000, .f32⟩
  | .hbm, ⟨57, _⟩ => ⟨S5000x5000, .f32⟩
  | .hbm, ⟨58, _⟩ => ⟨S5000x5000, .i1⟩
  | .hbm, ⟨59, _⟩ => ⟨S5000x5000, .f32⟩
  | .hbm, ⟨60, _⟩ => ⟨S5000x5000, .f32⟩
  | .hbm, ⟨61, _⟩ => ⟨S5000x5000, .f32⟩
  | .hbm, ⟨62, _⟩ => ⟨S_, .f32⟩
  | .hbm, ⟨63, _⟩ => ⟨S5000x5000, .f32⟩
  | .hbm, ⟨64, _⟩ => ⟨S5000x5000, .f32⟩
  | .hbm, ⟨65, _⟩ => ⟨S5000x5000, .f32⟩
  | .hbm, ⟨66, _⟩ => ⟨S5000x5000, .f32⟩
  | .hbm, ⟨67, _⟩ => ⟨S_, .f32⟩
  | .hbm, ⟨68, _⟩ => ⟨S5000x5000, .f32⟩
  | .hbm, ⟨69, _⟩ => ⟨S5000x5000, .f32⟩
  | .hbm, ⟨70, _⟩ => ⟨S5000x5000, .f32⟩
  | .hbm, ⟨71, _⟩ => ⟨S_, .f32⟩
  | .hbm, ⟨72, _⟩ => ⟨S5000, .f32⟩
  | .hbm, ⟨73, _⟩ => ⟨S_, .i32⟩
  | .hbm, ⟨74, _⟩ => ⟨S_, .i32⟩
  | .hbm, ⟨75, _⟩ => ⟨S5000x5000, .f32⟩
  | .hbm, ⟨76, _⟩ => ⟨S_, .i32⟩
  | .hbm, ⟨77, _⟩ => ⟨S_, .i32⟩
  | .hbm, ⟨78, _⟩ => ⟨S5000, .f32⟩
  | .hbm, ⟨79, _⟩ => ⟨S_, .i32⟩
  | .hbm, ⟨80, _⟩ => ⟨S_, .i1⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i1⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i1⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S5000x1, .f32⟩
  | .hbm, ⟨98, _⟩ => ⟨S5000, .f32⟩
  | .hbm, ⟨99, _⟩ => ⟨S5000, .f32⟩
  | .hbm, ⟨100, _⟩ => ⟨S_, .i32⟩
  | .hbm, ⟨101, _⟩ => ⟨S_, .i32⟩
  | .hbm, ⟨102, _⟩ => ⟨S5000, .f32⟩
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_v32 : Ref sig .tc := ⟨.hbm, 37, rfl⟩
abbrev main_v33 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_1 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_2 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_3 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_4 : Ref sig .tc := ⟨.hbm, 71, rfl⟩
abbrev main_v60 : Ref sig .tc := ⟨.hbm, 72, rfl⟩
abbrev main_c : Ref sig .tc := ⟨.hbm, 73, rfl⟩
abbrev main_c_5 : Ref sig .tc := ⟨.hbm, 74, rfl⟩
abbrev main_v61_0 : Ref sig .tc := ⟨.hbm, 75, rfl⟩
abbrev main_v61_1 : Ref sig .tc := ⟨.hbm, 76, rfl⟩
abbrev main_v61_2 : Ref sig .tc := ⟨.hbm, 77, rfl⟩
abbrev main_v61_3 : Ref sig .tc := ⟨.hbm, 78, rfl⟩
abbrev main_while0c_c_9 : Ref sig .tc := ⟨.hbm, 79, rfl⟩
abbrev main_while0c_v63 : Ref sig .tc := ⟨.hbm, 80, rfl⟩
abbrev main_while0b_c_9 : Ref sig .tc := ⟨.hbm, 81, rfl⟩
abbrev main_while0b_v63 : Ref sig .tc := ⟨.hbm, 82, rfl⟩
abbrev main_while0b_v64 : Ref sig .tc := ⟨.hbm, 83, rfl⟩
abbrev main_while0b_c_10 : Ref sig .tc := ⟨.hbm, 84, rfl⟩
abbrev main_while0b_c_11 : Ref sig .tc := ⟨.hbm, 85, rfl⟩
abbrev main_while0b_v65 : Ref sig .tc := ⟨.hbm, 86, rfl⟩
abbrev main_while0b_c_12 : Ref sig .tc := ⟨.hbm, 87, rfl⟩
abbrev main_while0b_c_13 : Ref sig .tc := ⟨.hbm, 88, rfl⟩
abbrev main_while0b_v66 : Ref sig .tc := ⟨.hbm, 89, rfl⟩
abbrev main_while0b_c_14 : Ref sig .tc := ⟨.hbm, 90, rfl⟩
abbrev main_while0b_v67 : Ref sig .tc := ⟨.hbm, 91, rfl⟩
abbrev main_while0b_c_15 : Ref sig .tc := ⟨.hbm, 92, rfl⟩
abbrev main_while0b_v68 : Ref sig .tc := ⟨.hbm, 93, rfl⟩
abbrev main_while0b_c_16 : Ref sig .tc := ⟨.hbm, 94, rfl⟩
abbrev main_while0b_v69 : Ref sig .tc := ⟨.hbm, 95, rfl⟩
abbrev main_while0b_v70 : Ref sig .tc := ⟨.hbm, 96, rfl⟩
abbrev main_while0b_v71 : Ref sig .tc := ⟨.hbm, 97, rfl⟩
abbrev main_while0b_v72 : Ref sig .tc := ⟨.hbm, 98, rfl⟩
abbrev main_while0b_v73 : Ref sig .tc := ⟨.hbm, 99, rfl⟩
abbrev main_while0b_c_17 : Ref sig .tc := ⟨.hbm, 100, rfl⟩
abbrev main_while0b_v74 : Ref sig .tc := ⟨.hbm, 101, rfl⟩
abbrev main_v62 : Ref sig .tc := ⟨.hbm, 102, rfl⟩

abbrev nD : Nat := 1
abbrev τ : Topo := Topo.v7x

variable {F : FTy → Type} [FloatOps F]

abbrev main_while0_count : Scf.Loop 32 := ⟨0#32, 5000#32, 1#32⟩
-- ==== Proof.Setup.lean ====
/- The launch of the kernel's one region, over any float values `F`: what the device's buffers hold when the region
   is entered, what the two prefetched tables hold (the constants of the program, so the region's blocks are all
   inside the arrays whatever the arguments are), and @main as the region between two stretches of host lines. -/
module

public import proofs.«01_k».proof.Proof.Gen.KernelIdeal.Launch
public import Idealize.ShloMosaic.Lib.Pipeline.FrameBody
public import Idealize.ShloMosaic.Lib.Pipeline.FrameSuffix
public import Idealize.ShloMosaic.Lib.StableHlo.RunRead
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Decay

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- What core `c`'s buffers hold once the host lines before the region have run. -/
abbrev entryVal (c : Dev nD) : Valuation τ sig (Elt F) := StableHlo.after (List.flatten [hostOps0]) (fun b => m (c, b))
/-- The same, at a TensorCore reference. -/
abbrev entry (c : Dev nD) (b : Ref sig .tc) : Buf (Elt F) ((c : Thread nD τ).loc b) := entryVal m c (Proc.devRef .tc b)

/-- The host lines before the region allocate nothing. -/
theorem before_fresh : (hostOps0 : List (HloOp τ sig (Elt F))).Forall fun op => op.fresh = ∅ := by
  simp only [List.Forall]; repeat' constructor
/-- Nor do the host lines after it. -/
theorem after_fresh : (hostOps1 : List (HloOp τ sig (Elt F))).Forall fun op => op.fresh = ∅ := by
  simp only [List.Forall]; repeat' constructor

set_option maxHeartbeats 800000 in
/-- @main is the host lines before the region, the region, and the host lines after it. -/
theorem main_around (𝒱₀ : Variants) : Pipeline.HMainPK (Ix := Unit) (Name := ℕ) (U := UR sig nD τ) (Lvl := ℕ) pcfgs 0 defs₀ 𝒱₀ m (main (F := F)) (entry m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact before_fresh) main_chain

/-- The host lines after the region touch no prefetched table. -/
theorem tail_sub : ∀ ops ∈ ([hostOps1] : List (List (HloOp τ sig (Elt F)))), ∀ op ∈ ops,
    op.bufs ⊆ Pipeline.tailRefs sig pre0 spec0 := by
  intro ops hops op hop
  obtain rfl := List.mem_singleton.mp hops
  refine Pipeline.sub_tailRefs pre0 spec0 op ((List.forall_iff_forall_mem.mp hostOps1_sub) op hop) ?_
  simp only [hostOps1, List.mem_cons, List.mem_nil_iff, or_false] at hop
  rcases hop with rfl | rfl
  all_goals
    intro j
    fin_cases j <;> simp only [StableHlo.unary_bufs, StableHlo.reshape_bufs, Finset.mem_insert, Finset.mem_singleton, not_or]
      <;> and_intros <;> exact StableHlo.devRef_ne_of_ne (by decide)
/-- They allocate nothing. -/
theorem tail_fresh : ∀ ops ∈ ([hostOps1] : List (List (HloOp τ sig (Elt F)))), ∀ op ∈ ops, op.fresh = ∅ := by
  intro ops hops op hop
  obtain rfl := List.mem_singleton.mp hops
  exact (List.forall_iff_forall_mem.mp after_fresh) op hop
/-- They write no array that the region stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  simp only [hostOps1, List.mem_cons, List.mem_nil_iff, or_false] at hop
  rcases hop with rfl | rfl
  all_goals
    intro w
    fin_cases w <;> simp only [StableHlo.unary_writes, StableHlo.reshape_writes, Finset.mem_singleton]
      <;> exact StableHlo.devRef_ne_of_ne (by decide)

/-- A buffer that no host line before the region writes is entered as launched. -/
theorem entry_arg (c : Dev nD) (b : Ref sig .tc) (hb : b = main_arg0 ∨ b = main_arg1) :
    entry m c b = m ((c : Thread nD τ).loc b) := by
  rcases hb with rfl | rfl
  all_goals
    refine StableHlo.after_of_forall_not_mem _ _ (List.forall_iff_forall_mem.mp ?_)
    simp only [hostOps0, List.flatten_cons, List.flatten_nil, List.append_nil, List.Forall, StableHlo.nullary_writes,
      StableHlo.unary_writes, StableHlo.binary_writes, StableHlo.reshape_writes, StableHlo.nary_writes, Finset.mem_singleton]
    repeat' apply And.intro
    all_goals exact StableHlo.devRef_ne_of_ne (by decide)

/-! ## The two tables -/

/-- The tables' contents when the region is entered. -/
def tbl : pre0.Contents (Elt F) := fun j => entry m (0 : Dev nD) (pre0.ref j)
/-- There is one device, so every device's tables hold those. -/
theorem entry_tbl (c : Dev nD) (j : Fin 2) : entry m c (pre0.ref j) = tbl m j := by
  obtain rfl : c = 0 := Subsingleton.elim _ _; rfl

/-- The first table holds, at point `n`, the number of the block of rows. -/
theorem tbl_0 : (tbl m 0 : S15.Idx → BitVec 32) = fun i => lit1 (S15.rowMajor i) := by
  show entry m (0 : Dev nD) main_c = _
  unfold_abbrev_sides
  after_reads_simp
  rfl
/-- The second table holds, at point `n`, the number of the block of columns. -/
theorem tbl_1 : (tbl m 1 : S15.Idx → BitVec 32) = fun i => lit2 (S15.rowMajor i) := by
  show entry m (0 : Dev nD) main_c_0 = _
  unfold_abbrev_sides
  after_reads_simp
  rfl

/-- The block of rows at point `n`. -/
def bi (n : Fin 15) : ℕ := (lit1 n).toNat
/-- The block of columns at point `n`. -/
def bj (n : Fin 15) : ℕ := (lit2 n).toNat

/-- The entry of a table that a point reads is the entry of its own number. -/
theorem tbl_entry : ∀ i : grid0.Coords,
    (S15.rowMajor ((Rect.unit (s := S15) (k0_off1 i) S1.size (k0_off1_inb i)).emb (Shape.Idx.first (numel1_S1.symm ▸ Nat.one_pos)))).val = (i 0).val := by
  decide +kernel

/-- The word the kernel reads of the first table at a point. -/
theorem tbl_at_0 (i : grid0.Coords) :
    (tbl m).at 0 (Rect.unit (s := S15) (k0_off1 i) S1.size (k0_off1_inb i)) numel1_S1 = lit1 (i 0) := by
  show (tbl m 0 : S15.Idx → BitVec 32) _ = _
  rw [tbl_0]
  exact congrArg lit1 (Fin.ext (tbl_entry i))
/-- The word the kernel reads of the second table at a point. -/
theorem tbl_at_1 (i : grid0.Coords) :
    (tbl m).at 1 (Rect.unit (s := S15) (k0_off1 i) S1.size (k0_off1_inb i)) numel1_S1 = lit2 (i 0) := by
  show (tbl m 1 : S15.Idx → BitVec 32) _ = _
  rw [tbl_1]
  exact congrArg lit2 (Fin.ext (tbl_entry i))

/-- The first window's block at a point is the block of rows. -/
theorem transform_0 (i : grid0.Coords) : cc0_transform_0 k0_off1_inb numel1_S1 (tbl m) i = ![bi (i 0), 0] := by
  show ![((tbl m).at 0 (Rect.unit (s := S15) (k0_off1 i) S1.size (k0_off1_inb i)) numel1_S1 : BitVec 32).toNat, 0] = _
  rw [tbl_at_0]; rfl
/-- The second window's block at a point is the block of columns. -/
theorem transform_1 (i : grid0.Coords) : cc0_transform_1 k0_off1_inb numel1_S1 (tbl m) i = ![bj (i 0), 0] := by
  show ![((tbl m).at 1 (Rect.unit (s := S15) (k0_off1 i) S1.size (k0_off1_inb i)) numel1_S1 : BitVec 32).toNat, 0] = _
  rw [tbl_at_1]; rfl

/-- Every block of rows is one of the five. -/
theorem bi_lt : ∀ n, bi n < 5 := by decide
/-- Every block of columns is at most the block of rows. -/
theorem bj_le : ∀ n, bj n ≤ bi n := by decide

/-- The tables name blocks inside the arrays at every point. -/
theorem tbl_ok : ok0 (F := F) (tbl m) := by
  refine ⟨fun i => ⟨?_, .inl rfl⟩, fun i => ⟨?_, .inl rfl⟩⟩
  · rw [transform_0]
    have := bi_lt (i 0)
    intro a; fin_cases a
    · show (bi (i 0) + 1) * 1024 ≤ 5120; omega
    · show (0 + 1) * 8 ≤ 8; omega
  · rw [transform_1]
    have := bi_lt (i 0); have := bj_le (i 0)
    intro a; fin_cases a
    · show (bj (i 0) + 1) * 1024 ≤ 5120; omega
    · show (0 + 1) * 8 ≤ 8; omega

/-- What the body assumes of the two words it reads holds at every point. -/
theorem words_ok : ∀ n : Fin 15, k0_chk1 (lit1 n) (lit2 n) := by decide +kernel

/-- The tables, and the pipeline at them. -/
abbrev adm : (pcfg0 (F := F)).Adm := ⟨tbl m, tbl_ok m⟩
/-- The call's configuration, at the tables of this launch. -/
abbrev cfgM : Pipeline.Cfg sig Λ₀ := cfg0 (adm m)

/-- Each table as the body is handed it. -/
abbrev rowTbl : Memref sig .tc .smem S15 .i32 := Memref.whole main_c
/-- The first table is a whole array. -/
abbrev hrowTbl : rowTbl.IsWhole := Memref.isWhole_whole _
/-- The second prefetched table. -/
abbrev colTbl : Memref sig .tc .smem S15 .i32 := Memref.whole main_c_0
/-- The second table is a whole array. -/
abbrev hcolTbl : colTbl.IsWhole := Memref.isWhole_whole _

/-- A table's buffer on core `c`. -/
abbrev TblBuf (c : Dev nD) {S : Shape} {e : EltTy} (M : Memref sig .tc .smem S e) : Type := Buf (Elt F) (M.view.loc (c : Thread nD τ))
/-- Half of a table held at contents `f`: the pipeline keeps the other half. -/
abbrev tblPt (c : Dev nD) {S : Shape} {e : EltTy} (M : Memref sig .tc .smem S e) (f : TblBuf (F := F) c M) : sProp 𝕄 :=
  M.view.loc (c : Thread nD τ) ↦{fullShare.right} f

/-- The halves of the tables that the region hands the body, one by one. -/
theorem tables_eq (c : Dev nD) : (Pipeline.ΦT pre0 (tbl m) c : sProp 𝕄) = iprop(tblPt c rowTbl (tbl m 0) ∗ tblPt c colTbl (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (entry m c (Pipeline.arrRef spec0 w))

/-- An input window's staging buffer holds its block at every point, fetched there or not. -/
theorem before_0 {c : Dev nD} (dat : Dat τ (Elt F) Unit ℕ (UR sig nD τ) ℕ (cfgM m) c) (hA : dat.A 0 = entry m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Before a step the second window holds its block. -/
theorem before_1 {c : Dev nD} (dat : Dat τ (Elt F) Unit ℕ (UR sig nD τ) ℕ (cfgM m) c) (hA : dat.A 1 = entry m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Before a step the third window holds its block. -/
theorem before_2 {c : Dev nD} (dat : Dat τ (Elt F) Unit ℕ (UR sig nD τ) ℕ (cfgM m) c) (hA : dat.A 2 = entry m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- An argument array ends as launched: no host line writes it and no window stages it. -/
theorem tail_arg (dats : (p : Fin _) → (c : Dev nD) → Dat τ (Elt F) Unit ℕ (UR sig nD τ) ℕ ((Pipeline.pin pcfgs fun _ => adm m) p) c) (c : Dev nD)
    (b : Ref sig .tc) (hb : b = main_arg0 ∨ b = main_arg1) :
    Pipeline.afterTail pcfgs (fun _ => adm m) dats 0 (entryVal m) [hostOps1] c b = m ((c : Thread nD τ).loc b) := by
  have hkeep : ∀ op ∈ List.flatten [(hostOps1 : List (HloOp τ sig (Elt F)))], Proc.devRef .tc b ∉ op.writes :=
    List.forall_iff_forall_mem.mp (by
      simp only [hostOps1, List.flatten_cons, List.flatten_nil, List.append_nil, List.Forall, StableHlo.unary_writes,
        StableHlo.reshape_writes, Finset.mem_singleton]
      rcases hb with rfl | rfl <;> and_intros <;> exact StableHlo.devRef_ne_of_ne (by decide))
  have hne : ∀ w, Pipeline.arrRef spec0 w ≠ b := by rcases hb with rfl | rfl <;> decide
  unfold Pipeline.afterTail
  rw [StableHlo.after_of_forall_not_mem (b := Proc.devRef .tc b) _ _ hkeep,
    Pipeline.withArrays_of_ne _ c (entryVal m c) _ b hne]
  exact entry_arg m c b hb

end Cert.KernelIdeal.Decay

end
-- ==== Proof.Body.lean ====
module

public import proofs.«01_k».proof.Proof.Gen.KernelIdeal.Skeleton
public import proofs.«01_k».proof.Proof.Setup
public import Idealize.ShloMosaic.Lib.VecWindow

@[expose] public section

set_option maxRecDepth 16384

noncomputable section

namespace Cert.KernelIdeal.Decay

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word a point reads of a table held at contents `x`. -/
abbrev word (c : Dev nD) (M : Memref sig .tc .smem S15 .i32) (i : grid0.Coords) (x : TblBuf (F := F) c M) : BitVec 32 :=
  M.view.readAt (Elt F) (Rect.unit (s := S15) (k0_off1 i) S1.size (k0_off1_inb i)).toLoadRect x (Shape.Idx.first (numel1_S1.symm ▸ Nat.one_pos))

/-- The first point's test, and the test for the first block of columns, as the kernel spells them. -/
abbrev isFirst (i : grid0.Coords) : Prop := (Scalar.cmpi .ne (Scalar.extui (Scalar.cmpi .eq (BitVec.ofNat 32 (i 0).val) 0#32)) 0#32) = 1#1
/-- The test that the column block is the first one, as the body computes it. -/
abbrev isLeft (w : BitVec 32) : Prop := (Scalar.cmpi .ne (Scalar.extui (Scalar.cmpi .eq w 0#32)) 0#32) = 1#1

/-- Column `k` of a block of rows. -/
abbrev column (p : Vec F S1024x8 .f32) (k : ℕ) (h : ∀ a, (![0, k] : Fin 2 → ℕ) a + S1024x1.size a ≤ S1024x8.size a) : Vec F S1024x1 .f32 :=
  VecWindow.window p ![0, k] S1024x1.size h

/-- The row accumulator after a point that pairs the block of rows `pi` with the block of columns `pj`. -/
def accStep (pi pj : Vec F S1024x8 .f32) (a : Vec F S1024x1 .f32) : Vec F S1024x1 .f32 :=
  k0_pay2 (k0_pay8 pj) (k0_pay9 (column pi 5 inb_S1024x8_S1024x1_0_5)) (k0_pay10 pj)
    (k0_pay11 pj (column pi 0 inb_S1024x8_S1024x1_0_0)) (k0_pay12 pj (column pi 1 inb_S1024x8_S1024x1_0_1))
    (k0_pay13 pj (column pi 2 inb_S1024x8_S1024x1_0_2)) (k0_pay14 pj (column pi 3 inb_S1024x8_S1024x1_0_3))
    (column pi 4 inb_S1024x8_S1024x1_0_4) a
/-- The column block `pj`'s sums after such a point. -/
def colStep (pi pj : Vec F S1024x8 .f32) (b : Vec F S1x1x1024 .f32) : Vec F S1x1x1024 .f32 :=
  k0_pay3 (k0_pay8 pj) (k0_pay9 (column pi 5 inb_S1024x8_S1024x1_0_5)) (k0_pay10 pj)
    (k0_pay11 pj (column pi 0 inb_S1024x8_S1024x1_0_0)) (k0_pay12 pj (column pi 1 inb_S1024x8_S1024x1_0_1))
    (k0_pay13 pj (column pi 2 inb_S1024x8_S1024x1_0_2)) (k0_pay14 pj (column pi 3 inb_S1024x8_S1024x1_0_3))
    (column pi 4 inb_S1024x8_S1024x1_0_4) b

/-- The column sums a point starts from: none at the first point. -/
def colIn (i : grid0.Coords) (col : Vec F S5x1x1024 .f32) : Vec F S5x1x1024 .f32 := if isFirst i then k0_pay6 else col
/-- What the row accumulator holds after a point that reads the words `w` and `v` of the two tables: it starts again
    at the first block of columns. -/
def accOut (v : BitVec 32) (pi pj : Vec F S1024x8 .f32) (acc : Vec F S1024x1 .f32) : Vec F S1024x1 .f32 :=
  accStep pi pj (if isLeft v then k0_pay7 else acc)
/-- What the column sums hold after it: left of the diagonal, block `v` has the point's pairs added. -/
def colOut (i : grid0.Coords) (w v : BitVec 32) (hw : k0_chk1 w v) (pi pj : Vec F S1024x8 .f32) (col : Vec F S5x1x1024 .f32) : Vec F S5x1x1024 .f32 :=
  if h : k0_cond3 w v = 1#1 then
    VecWindow.put (colIn i col) (k0_off2 v) S1x1x1024.size (colStep pi pj (VecWindow.window (colIn i col) (k0_off2 v) S1x1x1024.size (hw.1 h)))
  else colIn i col
/-- What the finished row sums hold after it: on the diagonal, block `w` is the row accumulator. -/
def rowOut (w v : BitVec 32) (pi pj : Vec F S1024x8 .f32) (acc : Vec F S1024x1 .f32) (row : Vec F S5x1x1024 .f32) : Vec F S5x1x1024 .f32 :=
  if k0_cond4 w v = 1#1 then VecWindow.put row (k0_off3 w) S1x1x1024.size (k0_pay4 (accOut v pi pj acc)) else row
/-- What the output block holds after it: at the last point, the decayed scores. -/
def scoreOut (i : grid0.Coords) (w v : BitVec 32) (hw : k0_chk1 w v) (pi pj : Vec F S1024x8 .f32) (acc : Vec F S1024x1 .f32)
    (sc out row col : Vec F S5x1x1024 .f32) : Vec F S5x1x1024 .f32 :=
  if k0_cond5 i = 1#1 then k0_pay5 sc (rowOut w v pi pj acc row) (colOut i w v hw pi pj col) else out

/-- The five ways the kernel's tests come out: the first point; the first block of columns below it; a block left of the
    diagonal; a block on the diagonal; the last point. -/
def Tests (i : grid0.Coords) (w v : BitVec 32) : Prop :=
  (isFirst i ∧ isLeft v ∧ ¬ k0_cond3 w v = 1#1 ∧ k0_cond4 w v = 1#1 ∧ ¬ k0_cond5 i = 1#1)
  ∨ (¬ isFirst i ∧ isLeft v ∧ k0_cond3 w v = 1#1 ∧ ¬ k0_cond4 w v = 1#1 ∧ ¬ k0_cond5 i = 1#1)
  ∨ (¬ isFirst i ∧ ¬ isLeft v ∧ k0_cond3 w v = 1#1 ∧ ¬ k0_cond4 w v = 1#1 ∧ ¬ k0_cond5 i = 1#1)
  ∨ (¬ isFirst i ∧ ¬ isLeft v ∧ ¬ k0_cond3 w v = 1#1 ∧ k0_cond4 w v = 1#1 ∧ ¬ k0_cond5 i = 1#1)
  ∨ (¬ isFirst i ∧ ¬ isLeft v ∧ ¬ k0_cond3 w v = 1#1 ∧ k0_cond4 w v = 1#1 ∧ k0_cond5 i = 1#1)

/-- At every point one of them does. -/
theorem tests : ∀ i : grid0.Coords, Tests i (lit1 (i 0)) (lit2 (i 0)) := by
  unfold Tests isFirst isLeft; decide +kernel

/-- A load of a whole memref held at `x` reads `x`. -/
theorem load_all {sp : Space} {s : Shape} {e : EltTy} (M : Memref sig .tc sp s e) (h : M.IsWhole) (x : s.Idx → Elt F e) {off : Fin s.rank → ℕ}
    (inb : ∀ a, off a + s.size a ≤ s.size a) : M.view.readAt (Elt F) (Rect.unit off s.size inb).toLoadRect (h.unread x) = x := by
  rw [View.readAt_full, h.read_unread]
/-- A load of a window of a whole memref held at `x` reads the window of `x`. -/
theorem load_window {sp : Space} {s : Shape} {e : EltTy} (M : Memref sig .tc sp s e) (h : M.IsWhole) (x : s.Idx → Elt F e) {off size : Fin s.rank → ℕ}
    (inb : ∀ a, off a + size a ≤ s.size a) : M.view.readAt (Elt F) (Rect.unit off size inb).toLoadRect (h.unread x) = VecWindow.window x off size inb := by
  rw [View.readAt_unit _ _ inb rfl inb, h.read_unread]

/-- The same for a whole block of rows. -/
theorem load_block (M : Memref sig .tc .vmem S1024x8 .f32) (h : M.IsWhole) (x : Vec F S1024x8 .f32)
    (inb : ∀ a, (![0, 0] : Fin 2 → ℕ) a + (![1024, 8] : Fin 2 → ℕ) a ≤ S1024x8.size a) :
    M.view.readAt (Elt F) (Rect.unit (s := S1024x8) ![0, 0] ![1024, 8] inb).toLoadRect (h.unread x) = x :=
  load_all M h x inb

/-- The same for the whole accumulator. -/
theorem load_acc (M : Memref sig .tc .vmem S1024x1 .f32) (h : M.IsWhole) (x : Vec F S1024x1 .f32)
    (inb : ∀ a, (![0, 0] : Fin 2 → ℕ) a + (![1024, 1] : Fin 2 → ℕ) a ≤ S1024x1.size a) :
    M.view.readAt (Elt F) (Rect.unit (s := S1024x1) ![0, 0] ![1024, 1] inb).toLoadRect (h.unread x) = x :=
  load_all M h x inb

/-- A load of the whole of five blocks reads what they hold. -/
theorem read_five (v : View sig .tc .vmem S5x1x1024 .f32) (f : v.ty.Contents (Elt F))
    (inb : ∀ a, (![0, 0, 0] : Fin 3 → ℕ) a + (![5, 1, 1024] : Fin 3 → ℕ) a ≤ S5x1x1024.size a) :
    v.readAt (Elt F) (Rect.unit (s := S5x1x1024) ![0, 0, 0] ![5, 1, 1024] inb).toLoadRect f = v.read (Elt F) f :=
  View.readAt_full v f inb

/-- The same for a whole buffer of five blocks. -/
theorem load_five (M : Memref sig .tc .vmem S5x1x1024 .f32) (h : M.IsWhole) (x : Vec F S5x1x1024 .f32)
    (inb : ∀ a, (![0, 0, 0] : Fin 3 → ℕ) a + (![5, 1, 1024] : Fin 3 → ℕ) a ≤ S5x1x1024.size a) :
    M.view.readAt (Elt F) (Rect.unit (s := S5x1x1024) ![0, 0, 0] ![5, 1, 1024] inb).toLoadRect (h.unread x) = x :=
  load_all M h x inb

set_option maxHeartbeats 1000000 in
/-- The body at a point, its three inputs' blocks held at `pi`, `pj`, `sc` and the rest at anything: it leaves the inputs
    and the tables as they were and the other four buffers at what the definitions above say. -/
theorem run_body (c : Dev nD) (i : grid0.Coords) (arg3 : Memref sig .tc .vmem S1024x8 .f32) (harg3 : arg3.IsWhole) (arg4 : Memref sig .tc .vmem S1024x8 .f32) (harg4 : arg4.IsWhole) (arg5 : Memref sig .tc .vmem S5x1x1024 .f32) (harg5 : arg5.IsWhole) (arg6 : Memref sig .tc .vmem S5x1x1024 .f32) (harg6 : arg6.IsWhole) (arg7 : Memref sig .tc .vmem S1024x1 .f32) (harg7 : arg7.IsWhole) (arg8 : Memref sig .tc .vmem S5x1x1024 .f32) (harg8 : arg8.IsWhole) (arg9 : Memref sig .tc .vmem S5x1x1024 .f32) (harg9 : arg9.IsWhole)
    (xt0 : TblBuf (F := F) c rowTbl) (xt1 : TblBuf (F := F) c colTbl)
    (hw : k0_chk1 (word c rowTbl i xt0) (word c colTbl i xt1))
    (ht : Tests i (word c rowTbl i xt0) (word c colTbl i xt1))
    (pi pj : Vec F S1024x8 .f32) (sc out row col : Vec F S5x1x1024 .f32) (acc : Vec F S1024x1 .f32) (E : Set ℕ) (K : PUnit → sProp 𝕄) :
        iprop(owns (c : Thread nD τ) arg3 fullShare pi ∗ owns (c : Thread nD τ) arg4 fullShare pj ∗ owns (c : Thread nD τ) arg5 fullShare sc ∗ owns (c : Thread nD τ) arg6 fullShare out
            ∗ owns (c : Thread nD τ) arg7 fullShare acc ∗ owns (c : Thread nD τ) arg8 fullShare row ∗ owns (c : Thread nD τ) arg9 fullShare col ∗ tblPt c rowTbl xt0 ∗ tblPt c colTbl xt1
            ∗ (iprop(owns (c : Thread nD τ) arg3 fullShare pi ∗ owns (c : Thread nD τ) arg4 fullShare pj ∗ owns (c : Thread nD τ) arg5 fullShare sc
            ∗ owns (c : Thread nD τ) arg6 fullShare (scoreOut i (word c rowTbl i xt0) (word c colTbl i xt1) hw pi pj acc sc out row col)
            ∗ owns (c : Thread nD τ) arg7 fullShare (accOut (word c colTbl i xt1) pi pj acc)
            ∗ owns (c : Thread nD τ) arg8 fullShare (rowOut (word c rowTbl i xt0) (word c colTbl i xt1) pi pj acc row)
            ∗ owns (c : Thread nD τ) arg9 fullShare (colOut i (word c rowTbl i xt0) (word c colTbl i xt1) hw pi pj col) ∗ tblPt c rowTbl xt0 ∗ tblPt c colTbl xt1) -∗ K ⟨⟩))
          ⊢ wp frame (wpE (defs₀ (F := F)) Variants.none c none) E (cc0__tri_body i rowTbl hrowTbl colTbl hcolTbl arg3 harg3 arg4 harg4 arg5 harg5 arg6 harg6 arg7 harg7 arg8 harg8 arg9 harg9) K := by
  simp only [cc0__tri_body_eq_skeleton]; unfold cc0__tri_body_skel; simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HT0, HT1, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  unfold scoreOut rowOut colOut accOut colIn
  rcases ht with ⟨hc1, hc2, hc3, hc4, hc5⟩ | ⟨hc1, hc2, hc3, hc4, hc5⟩ | ⟨hc1, hc2, hc3, hc4, hc5⟩ | ⟨hc1, hc2, hc3, hc4, hc5⟩ | ⟨hc1, hc2, hc3, hc4, hc5⟩
  all_goals
   sl_exec (disch := first | sl_exact hc1 | sl_exact hc2 | sl_exact hc3 | sl_exact hc4 | sl_exact hc5 | sl_exact hw)
   sl_step
   iapply Hk
   isplitl [H3]
   · iexists _; isplitr; · ipureintro; exact harg3.read_unread _
     iexact H3
   isplitl [H4]
   · iexists _; isplitr; · ipureintro; exact harg4.read_unread _
     iexact H4
   isplitl [H5]
   · iexists _; isplitr; · ipureintro; exact harg5.read_unread _
     iexact H5
   isplitl [H6]
   · iexists _; isplitr; swap; · iexact H6
     ipureintro
     first
     | with_reducible rw [if_neg hc5]; with_reducible exact harg6.read_unread _
     | (rw [if_pos hc5, View.read_writes_full, if_pos hc4, if_neg hc1]; unfold run_body.sl.v79 run_body.sl.H8_1 run_body.sl.v77_2 run_body.sl.H7_1_3
        simp only [load_five arg5 harg5, load_five arg9 harg9]
        rw [read_five, View.read_writes_cons_put _ _ _ _ _ rfl, View.writes_nil, harg8.read_unread, if_neg hc2, View.readCov_full]
        simp only [load_all, load_block, load_acc, load_window arg3 harg3]; rfl)
   isplitl [H7]
   · iexists _; isplitr; swap; · iexact H7
     ipureintro
     try unfold run_body.sl.H7_2
     try unfold run_body.sl.v57
     try unfold run_body.sl.H7_1
     try unfold run_body.sl.v57_1
     try unfold run_body.sl.H7_1_1
     try unfold run_body.sl.H7_1_2
     try unfold run_body.sl.H7_1_3
     rw [View.read_writes_full]
     first
     | rw [if_pos hc2, View.readCov_full]; simp only [load_all, load_block, load_window arg3 harg3]; rfl
     | rw [if_neg hc2]; simp only [load_all, load_block, load_acc, load_window arg3 harg3]; rfl
   isplitl [H8]
   · iexists _; isplitr; swap; · iexact H8
     ipureintro
     first
     | with_reducible rw [if_neg hc4]; with_reducible exact harg8.read_unread _
     | (rw [if_pos hc4]
        try unfold run_body.sl.H8_1
        rw [View.read_writes_cons_put _ _ _ _ _ rfl, View.writes_nil, harg8.read_unread]
        try unfold run_body.sl.v77
        try unfold run_body.sl.v77_1
        try unfold run_body.sl.v77_2
        try unfold run_body.sl.H7_2
        try unfold run_body.sl.H7_1_2
        try unfold run_body.sl.H7_1_3
        try unfold run_body.sl.v57
        try unfold run_body.sl.H7_1
        rw [View.readCov_full]
        first
        | rw [if_pos hc2, View.readCov_full]; simp only [load_all, load_block, load_window arg3 harg3]; rfl
        | rw [if_neg hc2]; simp only [load_all, load_block, load_acc, load_window arg3 harg3]; rfl)
   isplitl [H9]
   · iexists _; isplitr; swap; · iexact H9
     ipureintro
     first
     | with_reducible rw [if_neg hc1]; with_reducible exact harg9.read_unread _
     | (with_reducible rw [if_pos hc1]
        rw [View.read_writes_full])
     | (rw [if_neg hc1, View.read_writes_cons_put _ _ _ _ _ rfl]
        try unfold run_body.sl.v85
        try unfold run_body.sl.v85_1
        simp only [load_all, load_block, load_window arg3 harg3, load_window arg9 harg9, View.writes_nil, harg9.read_unread]; rfl)
   isplitl [HT0]; · iexact HT0
   iexact HT1

end Cert.KernelIdeal.Decay

end
-- ==== Proof.State.lean ====
module

public import proofs.«01_k».proof.Proof.Body

@[expose] public section

set_option maxRecDepth 16384

/-! What the kernel's three scratch buffers hold, point by point, as functions of the five blocks of boxes. The points
    walk the lower triangle of the 5 × 5 grid of block pairs row by row: `(b, j)` with `j ≤ b`. -/

noncomputable section

namespace Cert.KernelIdeal.Decay

open Cert.KernelIdeal.Gen
open Idealize.ShloMosaic

variable {F : FTy → Type} [FloatOps F]

/-! ## The five blocks of a buffer of sums -/

/-- The entry of the five blocks that is entry `y` of block `b`. -/
def five (b : ℕ) (y : S1x1x1024.Idx) : S5x1x1024.Idx := fun a =>
  ⟨(![b % 5, 0, (y 2).val] : Fin 3 → ℕ) a, by
    fin_cases a
    · exact Nat.mod_lt _ (by decide)
    · exact Nat.one_pos
    · exact (y 2).isLt⟩
/-- Block `b` of the five. -/
def seg (x : Vec F S5x1x1024 .f32) (b : ℕ) : Vec F S1x1x1024 .f32 := fun y => x (five b y)
/-- Where an entry of the five blocks lies within its block. -/
def within (y : S5x1x1024.Idx) : S1x1x1024.Idx := fun a =>
  ⟨(![0, 0, (y 2).val] : Fin 3 → ℕ) a, by
    fin_cases a
    · exact Nat.one_pos
    · exact Nat.one_pos
    · exact (y 2).isLt⟩
/-- Five blocks put together. -/
def join (g : ℕ → Vec F S1x1x1024 .f32) : Vec F S5x1x1024 .f32 := fun y => g (y 0).val (within y)

/-- An entry is the entry of its block that it is. -/
theorem five_within (y : S5x1x1024.Idx) : five (y 0).val (within y) = y := by
  have h0 : (y 0).val < 5 := (y 0).isLt
  have h1 : (y 1).val < 1 := (y 1).isLt
  funext a
  refine Fin.ext ?_
  fin_cases a
  · exact Nat.mod_eq_of_lt h0
  · show 0 = (y 1).val; omega
  · rfl
/-- Five blocks known one by one are known. -/
theorem eq_join (x : Vec F S5x1x1024 .f32) (g : ℕ → Vec F S1x1x1024 .f32) (h : ∀ b < 5, seg x b = g b) : x = join g := by
  funext y
  have := congrFun (h (y 0).val (y 0).isLt) (within y)
  unfold seg at this
  rwa [five_within] at this

/-- A window at block `b` reads block `b`. -/
theorem window_seg (x : Vec F S5x1x1024 .f32) (b : ℕ) (hb : b < 5)
    (inb : ∀ a, (![b, 0, 0] : Fin 3 → ℕ) a + S1x1x1024.size a ≤ S5x1x1024.size a) :
    VecWindow.window x ![b, 0, 0] S1x1x1024.size inb = seg x b := by
  funext y
  refine congrArg x (funext fun a => Fin.ext ?_)
  have h0 : (y 0).val < 1 := (y 0).isLt
  have h1 : (y 1).val < 1 := (y 1).isLt
  fin_cases a
  · show b + 1 * (y 0).val = b % 5
    rw [Nat.mod_eq_of_lt hb]; omega
  · show 0 + 1 * (y 1).val = 0; omega
  · show 0 + 1 * (y 2).val = (y 2).val; omega

/-- Block `b` lies inside the five. -/
theorem seg_inb (b : ℕ) (hb : b < 5) : ∀ a, (![b, 0, 0] : Fin 3 → ℕ) a + S1x1x1024.size a ≤ S5x1x1024.size a := by
  intro a; fin_cases a
  · show b + 1 ≤ 5; omega
  · exact Nat.le_refl _
  · exact Nat.le_refl _

/-- Block `b` just stored is what was stored. -/
theorem seg_put_same (x : Vec F S5x1x1024 .f32) (b : ℕ) (hb : b < 5) (w : Vec F S1x1x1024 .f32) :
    seg (VecWindow.put x ![b, 0, 0] S1x1x1024.size w) b = w :=
  (window_seg _ b hb (seg_inb b hb)).symm.trans (VecWindow.window_put_same _ _ _ _ _)
/-- A store to block `b` leaves the other blocks. -/
theorem seg_put_other (x : Vec F S5x1x1024 .f32) (b b' : ℕ) (hb' : b' < 5) (hne : b' ≠ b) (w : Vec F S1x1x1024 .f32) :
    seg (VecWindow.put x ![b, 0, 0] S1x1x1024.size w) b' = seg x b' := by
  rw [← window_seg _ b' hb' (seg_inb b' hb'), ← window_seg _ b' hb' (seg_inb b' hb')]
  refine VecWindow.window_put_of_disjoint _ _ _ _ _ _ _ (0 : Fin 3) ?_
  show b' + 1 ≤ b ∨ b + 1 ≤ b'
  omega

/-! ## The scratch, point by point -/

/-- The row accumulator, the finished row sums and the column sums. -/
abbrev Scratch (F : FTy → Type) : Type := Vec F S1024x1 .f32 × Vec F S5x1x1024 .f32 × Vec F S5x1x1024 .f32

/-- The row accumulator of block `b` once the first `n` blocks of columns are added. -/
def rowAcc (P : ℕ → Vec F S1024x8 .f32) (b : ℕ) : ℕ → Vec F S1024x1 .f32
  | 0 => k0_pay7
  | n + 1 => accStep (P b) (P n) (rowAcc P b n)
/-- Block `b` of the finished row sums. -/
def rowSum (P : ℕ → Vec F S1024x8 .f32) (b : ℕ) : Vec F S1x1x1024 .f32 := k0_pay4 (rowAcc P b (b + 1))
/-- Block `j` of the column sums once the first `n` blocks of rows are added: only those below the diagonal count. -/
def colSum (P : ℕ → Vec F S1024x8 .f32) (j : ℕ) : ℕ → Vec F S1x1x1024 .f32
  | 0 => seg k0_pay6 j
  | n + 1 => if j < n then colStep (P n) (P j) (colSum P j n) else colSum P j n

/-- What the point that pairs blocks `b` and `j` makes of the scratch. -/
def step (P : ℕ → Vec F S1024x8 .f32) (b j : ℕ) (s : Scratch F) : Scratch F :=
  (accStep (P b) (P j) (if j = 0 then k0_pay7 else s.1),
   if j = b then VecWindow.put s.2.1 ![b, 0, 0] S1x1x1024.size (k0_pay4 (accStep (P b) (P j) (if j = 0 then k0_pay7 else s.1))) else s.2.1,
   if j < b then VecWindow.put (if b = 0 then k0_pay6 else s.2.2) ![j, 0, 0] S1x1x1024.size
      (colStep (P b) (P j) (seg (if b = 0 then k0_pay6 else s.2.2) j)) else if b = 0 then k0_pay6 else s.2.2)

/-- What is known of the scratch before the point `(b, j)`. -/
def Before (P : ℕ → Vec F S1024x8 .f32) (b j : ℕ) (s : Scratch F) : Prop :=
  (j ≠ 0 → s.1 = rowAcc P b j) ∧ (∀ b' < b, seg s.2.1 b' = rowSum P b')
    ∧ (b ≠ 0 → ∀ j' < 5, seg s.2.2 j' = if j' < j then colSum P j' (b + 1) else colSum P j' b)

/-- Before the first point nothing is. -/
theorem before_first (P : ℕ → Vec F S1024x8 .f32) (s : Scratch F) : Before P 0 0 s :=
  ⟨fun h => absurd rfl h, fun b' h => absurd h (Nat.not_lt_zero _), fun h => absurd rfl h⟩

/-- The accumulator after the point `(b, j)` has one more block added. -/
theorem step_acc (P : ℕ → Vec F S1024x8 .f32) (b j : ℕ) (s : Scratch F) (h : Before P b j s) :
    (step P b j s).1 = rowAcc P b (j + 1) := by
  show accStep (P b) (P j) (if j = 0 then k0_pay7 else s.1) = accStep (P b) (P j) (rowAcc P b j)
  by_cases hj : j = 0
  · subst hj; rfl
  · rw [if_neg hj, h.1 hj]

/-- The column sums the point `(b, j)` starts from, block by block. -/
theorem col_start (P : ℕ → Vec F S1024x8 .f32) (b j : ℕ) (hjb : j ≤ b) (s : Scratch F) (h : Before P b j s) :
    ∀ j' < 5, seg (if b = 0 then k0_pay6 else s.2.2) j' = if j' < j then colSum P j' (b + 1) else colSum P j' b := by
  intro j' hj'
  by_cases hb : b = 0
  · subst hb
    obtain rfl : j = 0 := Nat.le_zero.mp hjb
    rw [if_pos rfl, if_neg (Nat.not_lt_zero _)]; rfl
  · rw [if_neg hb]; exact h.2.2 hb j' hj'

/-- A point left of the diagonal: one more block of its row is done. -/
theorem before_left (P : ℕ → Vec F S1024x8 .f32) (b j : ℕ) (hb : b < 5) (hj : j < b) (s : Scratch F) (h : Before P b j s) :
    Before P b (j + 1) (step P b j s) := by
  refine ⟨fun _ => step_acc P b j s h, fun b' hb' => ?_, fun hb0 j' hj' => ?_⟩
  · show seg (if j = b then _ else s.2.1) b' = _
    rw [if_neg (Nat.ne_of_lt hj)]; exact h.2.1 b' hb'
  · show seg (if j < b then _ else _) j' = _
    rw [if_pos hj]
    have hs := col_start P b j (Nat.le_of_lt hj) s h
    by_cases e : j' = j
    · subst e
      rw [seg_put_same _ _ hj', hs j' hj', if_neg (Nat.lt_irrefl _), if_pos (Nat.lt_succ_self _)]
      show _ = if j' < b then _ else _
      rw [if_pos hj]
    · rw [seg_put_other _ _ _ hj' e, hs j' hj']
      by_cases hlt : j' < j
      · rw [if_pos hlt, if_pos (Nat.lt_succ_of_lt hlt)]
      · rw [if_neg hlt, if_neg (by omega)]

/-- A point on the diagonal: its row is finished. -/
theorem before_diag (P : ℕ → Vec F S1024x8 .f32) (b : ℕ) (hb : b < 5) (s : Scratch F) (h : Before P b b s) :
    Before P (b + 1) 0 (step P b b s) := by
  refine ⟨fun h => absurd rfl h, fun b' hb' => ?_, fun hb0 j' hj' => ?_⟩
  · show seg (if b = b then VecWindow.put s.2.1 ![b, 0, 0] S1x1x1024.size (k0_pay4 (step P b b s).1) else s.2.1) b' = _
    rw [if_pos rfl]
    by_cases e : b' = b
    · subst e
      rw [seg_put_same _ _ hb, step_acc P b' b' s h]; rfl
    · rw [seg_put_other _ _ _ (by omega) e]; exact h.2.1 b' (by omega)
  · show seg (if b < b then _ else _) j' = _
    rw [if_neg (Nat.lt_irrefl _), col_start P b b (Nat.le_refl _) s h j' hj', if_neg (Nat.not_lt_zero _)]
    show _ = if j' < b then _ else _
    by_cases hlt : j' < b
    · rw [if_pos hlt, if_pos hlt]
      show (if j' < b then _ else _) = _
      rw [if_pos hlt]
    · rw [if_neg hlt, if_neg hlt]

/-! ## The fifteen points -/

/-- What the kernel's tests say in numbers. -/
theorem isFirst_iff : ∀ i : grid0.Coords, isFirst i ↔ bi (i 0) = 0 := by unfold isFirst; decide +kernel
/-- The body's first test holds where the column block is the first. -/
theorem isLeft_iff : ∀ n : Fin 15, isLeft (lit2 n) ↔ bj n = 0 := by unfold isLeft; decide +kernel
/-- The body's second test holds below the diagonal. -/
theorem below_iff : ∀ n : Fin 15, k0_cond3 (lit1 n) (lit2 n) = 1#1 ↔ bj n < bi n := by decide +kernel
/-- The body's third test holds on the diagonal. -/
theorem diag_iff : ∀ n : Fin 15, k0_cond4 (lit1 n) (lit2 n) = 1#1 ↔ bj n = bi n := by decide +kernel
/-- The body's last test holds at the last step. -/
theorem isLast_iff : ∀ i : grid0.Coords, k0_cond5 i = 1#1 ↔ (i 0).val = 14 := by decide +kernel

/-- The point after `(b, j)` is `(b, j + 1)` or, from the diagonal, `(b + 1, 0)`. -/
theorem next_left : ∀ n n' : Fin 15, n'.val = n.val + 1 → bj n < bi n → bi n' = bi n ∧ bj n' = bj n + 1 := by decide
/-- After a step on the diagonal comes the first column block of the next row. -/
theorem next_diag : ∀ n n' : Fin 15, n'.val = n.val + 1 → bj n = bi n → bi n' = bi n + 1 ∧ bj n' = 0 := by decide

/-- The three scratch buffers after the body, in numbers. -/
theorem step_eq (P : ℕ → Vec F S1024x8 .f32) (i : grid0.Coords) (hw : k0_chk1 (lit1 (i 0)) (lit2 (i 0))) (s : Scratch F) :
    (accOut (lit2 (i 0)) (P (bi (i 0))) (P (bj (i 0))) s.1,
      rowOut (lit1 (i 0)) (lit2 (i 0)) (P (bi (i 0))) (P (bj (i 0))) s.1 s.2.1,
      colOut i (lit1 (i 0)) (lit2 (i 0)) hw (P (bi (i 0))) (P (bj (i 0))) s.2.2) = step P (bi (i 0)) (bj (i 0)) s := by
  have e1 : ∀ a : Vec F S1024x1 .f32, (if isLeft (lit2 (i 0)) then k0_pay7 else a) = if bj (i 0) = 0 then k0_pay7 else a :=
    fun a => if_congr (isLeft_iff (i 0)) rfl rfl
  have e2 : ∀ a : Vec F S5x1x1024 .f32, (if isFirst i then k0_pay6 else a) = if bi (i 0) = 0 then k0_pay6 else a :=
    fun a => if_congr (isFirst_iff i) rfl rfl
  unfold step rowOut colOut colIn accOut
  rw [e1, e2]
  refine congrArg₂ Prod.mk rfl (congrArg₂ Prod.mk (if_congr (diag_iff (i 0)) rfl rfl) ?_)
  by_cases hc : bj (i 0) < bi (i 0)
  · rw [if_pos hc, dif_pos ((below_iff (i 0)).mpr hc)]
    refine congrArg (fun w : Vec F S1x1x1024 .f32 => VecWindow.put (if bi (i 0) = 0 then k0_pay6 else s.2.2) ![bj (i 0), 0, 0] S1x1x1024.size
      (colStep (P (bi (i 0))) (P (bj (i 0))) w)) ?_
    exact window_seg _ (bj (i 0)) (Nat.lt_of_le_of_lt (bj_le _) (bi_lt _)) _
  · rw [if_neg hc, dif_neg (fun h => hc ((below_iff (i 0)).mp h))]

/-- What is known before the point with number `n`; after the last point, that all is finished. -/
def BeforePoint (P : ℕ → Vec F S1024x8 .f32) (n : ℕ) (s : Scratch F) : Prop :=
  if h : n < 15 then Before P (bi ⟨n, h⟩) (bj ⟨n, h⟩) s else Before P 5 0 s

/-- A point keeps what is known. -/
theorem before_next (P : ℕ → Vec F S1024x8 .f32) (n : Fin 15) (s : Scratch F) (h : BeforePoint P n.val s) :
    BeforePoint P (n.val + 1) (step P (bi n) (bj n) s) := by
  unfold BeforePoint at h ⊢
  rw [dif_pos n.isLt] at h
  by_cases hd : bj n = bi n
  · have h' := before_diag P (bi n) (bi_lt n) s (by rw [hd] at h; exact h)
    by_cases hn : n.val + 1 < 15
    · obtain ⟨e1, e2⟩ := next_diag n ⟨n.val + 1, hn⟩ rfl hd
      rw [dif_pos hn, e1, e2, hd]; exact h'
    · rw [dif_neg hn]
      obtain rfl : n = 14 := Fin.ext (by have := n.isLt; show n.val = 14; omega)
      exact h'
  · have hlt : bj n < bi n := lt_of_le_of_ne (bj_le n) hd
    have hn : n.val + 1 < 15 := by
      by_contra hn
      obtain rfl : n = 14 := Fin.ext (by have := n.isLt; show n.val = 14; omega)
      exact hd (by decide)
    obtain ⟨e1, e2⟩ := next_left n ⟨n.val + 1, hn⟩ rfl hlt
    rw [dif_pos hn, e1, e2]; exact before_left P (bi n) (bj n) (bi_lt n) hlt s h

/-- What the last point writes to the output: the scores `sc` decayed by the finished sums. -/
def decayed (P : ℕ → Vec F S1024x8 .f32) (sc : Vec F S5x1x1024 .f32) : Vec F S5x1x1024 .f32 :=
  k0_pay5 sc (join (rowSum P)) (join fun j => colSum P j 5)

/-- After the last point the row sums and the column sums are finished. -/
theorem finished (P : ℕ → Vec F S1024x8 .f32) (s : Scratch F) (h : BeforePoint P 15 s) :
    s.2.1 = join (rowSum P) ∧ s.2.2 = join fun j => colSum P j 5 := by
  unfold BeforePoint at h
  rw [dif_neg (by decide)] at h
  refine ⟨eq_join _ _ h.2.1, eq_join _ _ fun j hj => ?_⟩
  have := h.2.2 (by decide) j hj
  rwa [if_neg (Nat.not_lt_zero _)] at this

end Cert.KernelIdeal.Decay

end
-- ==== Proof.Run.lean ====
module

public import proofs.«01_k».proof.Proof.State
public import proofs.«01_k».proof.Proof.Gen.KernelIdeal.Flash
public import Idealize.ShloMosaic.Lib.Pipeline.ValueKit

@[expose] public section

set_option maxRecDepth 16384

/-! The run of the kernel's program: at every point the body keeps what is known of the scratch, so the run ends, its
    arguments as launched, every counter at zero and the output array at the decayed scores. -/

noncomputable section

namespace Cert.KernelIdeal.Decay

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The blocks of boxes -/

/-- Entry `y` of block `b` of the boxes' array. -/
def rowOf (b : ℕ) (y : S1024x8.Idx) : S5120x8.Idx := fun a =>
  ⟨(![(b * 1024 + (y 0).val) % 5120, (y 1).val] : Fin 2 → ℕ) a, by
    fin_cases a
    · exact Nat.mod_lt _ (by decide)
    · exact (y 1).isLt⟩
/-- Block `b` of the boxes' array. -/
def block (p : Vec F S5120x8 .f32) (b : ℕ) : Vec F S1024x8 .f32 := fun y => p (rowOf b y)

/-- The boxes, block by block, as the region finds them. -/
abbrev boxes (c : Dev nD) : ℕ → Vec F S1024x8 .f32 := block (entry m c main_v23)
/-- The padded scores as the region finds them. -/
abbrev scores (c : Dev nD) : Vec F S5x1x1024 .f32 := entry m c main_v26

/-- A point's number, and its blocks of rows and of columns. -/
def pt (t : Fin grid0.N) : Fin 15 := grid0.coords t 0
/-- The row block of a step. -/
def rowAt (t : Fin grid0.N) : ℕ := bi (pt t)
/-- The column block of a step. -/
def colAt (t : Fin grid0.N) : ℕ := bj (pt t)

/-- The first window's block at a point is the block of rows. -/
theorem iblk_0 (c : Dev nD) (t : Fin (cfgM m).N) : iblk m c 0 t = boxes m c (rowAt t) := by
  refine funext fun (y : S1024x8.Idx) => ?_
  refine congrArg (entry m c main_v23 : S5120x8.Idx → F .f32) (funext fun a => Fin.ext ?_)
  have hy : (y 0).val < 1024 := (y 0).isLt
  have hb : rowAt t < 5 := bi_lt (pt t)
  have e : ∀ a, (cc0_transform_0 k0_off1_inb numel1_S1 (tbl m) (grid0.coords t)) a = (![rowAt t, 0] : Fin 2 → ℕ) a :=
    fun a => congrFun (transform_0 m (grid0.coords t)) a
  fin_cases a
  · show (cc0_transform_0 k0_off1_inb numel1_S1 (tbl m) (grid0.coords t)) 0 * 1024 + 1 * (y 0).val = (rowAt t * 1024 + (y 0).val) % 5120
    rw [e, Nat.mod_eq_of_lt (by omega)]
    show rowAt t * 1024 + 1 * (y 0).val = _
    omega
  · show (cc0_transform_0 k0_off1_inb numel1_S1 (tbl m) (grid0.coords t)) 1 * 8 + 1 * (y 1).val = (y 1).val
    rw [e]
    show 0 * 8 + 1 * (y 1).val = (y 1).val
    omega
/-- The second window's block at a point is the block of columns. -/
theorem iblk_1 (c : Dev nD) (t : Fin (cfgM m).N) : iblk m c 1 t = boxes m c (colAt t) := by
  refine funext fun (y : S1024x8.Idx) => ?_
  refine congrArg (entry m c main_v23 : S5120x8.Idx → F .f32) (funext fun a => Fin.ext ?_)
  have hy : (y 0).val < 1024 := (y 0).isLt
  have hb : rowAt t < 5 := bi_lt (pt t)
  have hj : colAt t ≤ rowAt t := bj_le (pt t)
  have e : ∀ a, (cc0_transform_1 k0_off1_inb numel1_S1 (tbl m) (grid0.coords t)) a = (![colAt t, 0] : Fin 2 → ℕ) a :=
    fun a => congrFun (transform_1 m (grid0.coords t)) a
  fin_cases a
  · show (cc0_transform_1 k0_off1_inb numel1_S1 (tbl m) (grid0.coords t)) 0 * 1024 + 1 * (y 0).val = (colAt t * 1024 + (y 0).val) % 5120
    rw [e, Nat.mod_eq_of_lt (by omega)]
    show colAt t * 1024 + 1 * (y 0).val = _
    omega
  · show (cc0_transform_1 k0_off1_inb numel1_S1 (tbl m) (grid0.coords t)) 1 * 8 + 1 * (y 1).val = (y 1).val
    rw [e]
    show 0 * 8 + 1 * (y 1).val = (y 1).val
    omega
/-- The third window's block is the whole array of scores at every point. -/
theorem iblk_2 (c : Dev nD) (t : Fin (cfgM m).N) : iblk m c 2 t = scores m c := by
  refine funext fun (y : S5x1x1024.Idx) => ?_
  refine congrArg (entry m c main_v26 : S5x1x1024.Idx → F .f32) (funext fun a => Fin.ext ?_)
  fin_cases a
  · show 0 * 5 + 1 * (y 0).val = (y 0).val; omega
  · show 0 * 1 + 1 * (y 1).val = (y 1).val; omega
  · show 0 * 1024 + 1 * (y 2).val = (y 2).val; omega

/-! ## The pipeline's proof data -/

/-- The scratch buffers as memrefs. -/
abbrev accM : Memref sig .tc .vmem S1024x1 .f32 := Memref.whole cc0_scratch0
/-- The scratch that holds the row sums. -/
abbrev rowM : Memref sig .tc .vmem S5x1x1024 .f32 := Memref.whole cc0_scratch1
/-- The scratch that holds the column sums. -/
abbrev colM : Memref sig .tc .vmem S5x1x1024 .f32 := Memref.whole cc0_scratch2

/-- The invariant before point `n`: the scratch at contents of which `BeforePoint` holds, the generator register at some
    state and the tables' halves. -/
def Inv (c : Dev nD) (n : ℕ) : sProp 𝕄 :=
  iprop((∃ s : Scratch F, ⌜BeforePoint (boxes m c) n s⌝ ∗ owns (c : Thread nD τ) accM fullShare s.1
      ∗ owns (c : Thread nD τ) rowM fullShare s.2.1 ∗ owns (c : Thread nD τ) colM fullShare s.2.2)
    ∗ (∃ r, prngReg c r) ∗ tblPt c rowTbl (tbl m 0) ∗ tblPt c colTbl (tbl m 1))

/-- The proof data: the arrays as the region finds them, each input's staging buffer at its block after every point, the
    output's at the decayed scores; windows on one array hold a share of it each; the core owes nothing. -/
def dats (_ : Fin 1) (c : Dev nD) : Dat τ (Elt F) Unit ℕ (UR sig nD τ) ℕ (cfgM m) c where
  A w := entry m c (Pipeline.arrRef spec0 w)
  after w t := match w with
    | ⟨0, _⟩ => iblk m c 0 t
    | ⟨1, _⟩ => iblk m c 1 t
    | ⟨2, _⟩ => iblk m c 2 t
    | ⟨3, _⟩ => decayed (boxes m c) (scores m c)
  Φ t := Inv m c t.val
  q w := Pipeline.shareOf spec0 w
  owed _ := 0

/-- Its arrays are the buffers' contents on entry. -/
theorem A_eq (c : Dev nD) (w : Fin (cfgM m).W) : (dats m 0 c).A w = entry m c (Pipeline.arrRef spec0 w) := by
  dsimp only [dats]
/-- The first window is left holding its block. -/
theorem after_0 (c : Dev nD) (t : Fin (cfgM m).N) : (dats m 0 c).after 0 t = iblk m c 0 t := by dsimp only [dats]; try rfl
/-- The second window is left holding its block. -/
theorem after_1 (c : Dev nD) (t : Fin (cfgM m).N) : (dats m 0 c).after 1 t = iblk m c 1 t := by dsimp only [dats]; try rfl
/-- The third window is left holding its block. -/
theorem after_2 (c : Dev nD) (t : Fin (cfgM m).N) : (dats m 0 c).after 2 t = iblk m c 2 t := by dsimp only [dats]; try rfl
/-- The output window is left holding the decayed scores. -/
theorem after_3 (c : Dev nD) (t : Fin (cfgM m).N) : (dats m 0 c).after 3 t = decayed (boxes m c) (scores m c) := by dsimp only [dats]; try rfl

/-- The windows' current staging memrefs. -/
abbrev ms0 (t : Fin (cfgM m).N) : Memref sig .tc .vmem S1024x8 .f32 := spec0_0.stage ((cfgM m).slots t 0)
/-- The staging buffer of the column boxes at a step. -/
abbrev ms1 (t : Fin (cfgM m).N) : Memref sig .tc .vmem S1024x8 .f32 := spec0_1.stage ((cfgM m).slots t 1)
/-- The staging buffer of the scores at a step. -/
abbrev ms2 (t : Fin (cfgM m).N) : Memref sig .tc .vmem S5x1x1024 .f32 := spec0_2.stage ((cfgM m).slots t 2)
/-- The staging buffer of the output at a step. -/
abbrev ms3 (t : Fin (cfgM m).N) : Memref sig .tc .vmem S5x1x1024 .f32 := spec0_3.stage ((cfgM m).slots t 3)

/-- The body at a point, as the pipeline calls it. -/
abbrev bodyAt (t : Fin (cfgM m).N) :=
  cc0__tri_body (F := F) (grid0.coords t) rowTbl hrowTbl colTbl hcolTbl (ms0 m t) (hstage0_0 (((cfgM m).slots t 0).cast nbuf0_0)) (ms1 m t) (hstage0_1 (((cfgM m).slots t 1).cast nbuf0_1))
    (ms2 m t) (hstage0_2 (((cfgM m).slots t 2).cast nbuf0_2)) (ms3 m t) (hstage0_3 (((cfgM m).slots t 3).cast nbuf0_3))
    accM (Memref.isWhole_whole _) rowM (Memref.isWhole_whole _) colM (Memref.isWhole_whole _)

/-- The words the body reads of the tables. -/
theorem word_0 (c : Dev nD) (i : grid0.Coords) : word c rowTbl i (tbl m 0) = lit1 (i 0) := by
  obtain rfl : c = 0 := Subsingleton.elim _ _
  exact tbl_at_0 m i
/-- The second table's word at a step is that of its list. -/
theorem word_1 (c : Dev nD) (i : grid0.Coords) : word c colTbl i (tbl m 1) = lit2 (i 0) := by
  obtain rfl : c = 0 := Subsingleton.elim _ _
  exact tbl_at_1 m i

/-- A point's number is its coordinate. -/
theorem coord_val : ∀ t : Fin grid0.N, (grid0.coords t 0).val = t.val := by decide +kernel
/-- The output is idle before the last point, and is not written back there. -/
theorem idle_3 : ∀ t : Fin grid0.N, t.val ≠ 14 → idle0 3 (grid0.coords t) = true := by decide +kernel
/-- The output window is live at the last step. -/
theorem live_3 : ∀ t : Fin grid0.N, t.val = 14 → idle0 3 (grid0.coords t) = false := by decide +kernel
/-- The output is written back at the last step. -/
theorem lastFlush_3 : Pipeline.Window.flushOf grid0 true cc0_transform_3 t0_14 = true := by decide +kernel
/-- It is written back at no other step. -/
theorem onlyFlush_3 : ∀ t : Fin grid0.N, Pipeline.Window.flushOf grid0 true cc0_transform_3 t = true → t = t0_14 := by decide +kernel
/-- Its block at the last step lies at the origin. -/
theorem originIndex_3 : ∀ a : Fin 3, cc0_transform_3 (grid0.coords t0_14) a = 0 := by decide +kernel
/-- Before the last step nothing is written back. -/
theorem noFlush_3 : ∀ t : Fin grid0.N, t.val ≠ 14 → Pipeline.Window.flushOf grid0 true cc0_transform_3 t = false := by decide +kernel

/-- The scratch after the body at a point. -/
def scratchAfter (c : Dev nD) (t : Fin grid0.N) (s : Scratch F) : Scratch F := step (boxes m c) (rowAt t) (colAt t) s
/-- The output buffer after a step: the decayed scores at the last one, as before at the others. -/
def outAfter (c : Dev nD) (t : Fin grid0.N) (s : Scratch F) (out : Vec F S5x1x1024 .f32) : Vec F S5x1x1024 .f32 :=
  if t.val = 14 then k0_pay5 (scores m c) (scratchAfter m c t s).2.1 (scratchAfter m c t s).2.2 else out

/-- They are what the body's tests make of them. -/
theorem scratchAfter_eq (c : Dev nD) (t : Fin grid0.N) (s : Scratch F) : scratchAfter m c t s
    = (accOut (lit2 (pt t)) (boxes m c (rowAt t)) (boxes m c (colAt t)) s.1,
      rowOut (lit1 (pt t)) (lit2 (pt t)) (boxes m c (rowAt t)) (boxes m c (colAt t)) s.1 s.2.1,
      colOut (grid0.coords t) (lit1 (pt t)) (lit2 (pt t)) (words_ok (pt t)) (boxes m c (rowAt t)) (boxes m c (colAt t)) s.2.2) :=
  (step_eq (boxes m c) (grid0.coords t) (words_ok (pt t)) s).symm
/-- The same, spelt with the test that the body makes. -/
theorem outAfter_eq (c : Dev nD) (t : Fin grid0.N) (s : Scratch F) (out : Vec F S5x1x1024 .f32) : outAfter m c t s out
    = scoreOut (grid0.coords t) (lit1 (pt t)) (lit2 (pt t)) (words_ok (pt t)) (boxes m c (rowAt t)) (boxes m c (colAt t)) s.1 (scores m c) out s.2.1 s.2.2 := by
  unfold outAfter scoreOut
  rw [scratchAfter_eq]
  exact if_congr ((show t.val = 14 ↔ (grid0.coords t 0).val = 14 by rw [coord_val t]).trans (isLast_iff (grid0.coords t)).symm) rfl rfl

/-- What is known before a point is known of the scratch after it, one point on. -/
theorem known_after (c : Dev nD) (t : Fin grid0.N) (s : Scratch F) (h : BeforePoint (boxes m c) t.val s) :
    BeforePoint (boxes m c) (t.val + 1) (scratchAfter m c t s) := by
  have e : (pt t).val = t.val := coord_val t
  rw [← e] at h ⊢
  exact before_next (boxes m c) (pt t) s h
/-- The last point leaves the decayed scores in the output's staging buffer, -/
theorem outAfter_last (c : Dev nD) (t : Fin grid0.N) (s : Scratch F) (out : Vec F S5x1x1024 .f32) (ht : t.val = 14)
    (h : BeforePoint (boxes m c) t.val s) : outAfter m c t s out = decayed (boxes m c) (scores m c) := by
  have hk := known_after m c t s h
  rw [ht] at hk
  obtain ⟨er, ec⟩ := finished _ _ hk
  unfold outAfter
  rw [if_pos ht, er, ec]; rfl
/-- and the others leave it alone. -/
theorem outAfter_other (c : Dev nD) (t : Fin grid0.N) (s : Scratch F) (out : Vec F S5x1x1024 .f32) (ht : t.val ≠ 14) :
    outAfter m c t s out = out := if_neg ht

/-- The body's run at the words `w` and `v` that it reads. -/
theorem run_words (c : Dev nD) (i : grid0.Coords) (arg3 : Memref sig .tc .vmem S1024x8 .f32) (harg3 : arg3.IsWhole) (arg4 : Memref sig .tc .vmem S1024x8 .f32) (harg4 : arg4.IsWhole)
    (arg5 : Memref sig .tc .vmem S5x1x1024 .f32) (harg5 : arg5.IsWhole) (arg6 : Memref sig .tc .vmem S5x1x1024 .f32) (harg6 : arg6.IsWhole)
    (xt0 : TblBuf (F := F) c rowTbl) (xt1 : TblBuf (F := F) c colTbl) (w v : BitVec 32) (e0 : word c rowTbl i xt0 = w) (e1 : word c colTbl i xt1 = v)
    (hw : k0_chk1 w v) (ht : Tests i w v) (pi pj : Vec F S1024x8 .f32) (sc out : Vec F S5x1x1024 .f32) (s : Scratch F) (K : PUnit → sProp 𝕄) :
    iprop(owns (c : Thread nD τ) arg3 fullShare pi ∗ owns (c : Thread nD τ) arg4 fullShare pj ∗ owns (c : Thread nD τ) arg5 fullShare sc ∗ owns (c : Thread nD τ) arg6 fullShare out
        ∗ owns (c : Thread nD τ) accM fullShare s.1 ∗ owns (c : Thread nD τ) rowM fullShare s.2.1 ∗ owns (c : Thread nD τ) colM fullShare s.2.2
        ∗ tblPt c rowTbl xt0 ∗ tblPt c colTbl xt1
        ∗ (iprop(owns (c : Thread nD τ) arg3 fullShare pi ∗ owns (c : Thread nD τ) arg4 fullShare pj ∗ owns (c : Thread nD τ) arg5 fullShare sc
          ∗ owns (c : Thread nD τ) arg6 fullShare (scoreOut i w v hw pi pj s.1 sc out s.2.1 s.2.2)
          ∗ owns (c : Thread nD τ) accM fullShare (accOut v pi pj s.1)
          ∗ owns (c : Thread nD τ) rowM fullShare (rowOut w v pi pj s.1 s.2.1)
          ∗ owns (c : Thread nD τ) colM fullShare (colOut i w v hw pi pj s.2.2)
          ∗ tblPt c rowTbl xt0 ∗ tblPt c colTbl xt1) -∗ K ⟨⟩))
      ⊢ wp frame (wpE (defs₀ (F := F)) Variants.none c none) Set.univ (cc0__tri_body i rowTbl hrowTbl colTbl hcolTbl arg3 harg3 arg4 harg4 arg5 harg5 arg6 harg6
          accM (Memref.isWhole_whole _) rowM (Memref.isWhole_whole _) colM (Memref.isWhole_whole _)) K := by
  subst e0; subst e1
  exact run_body (F := F) c i arg3 harg3 arg4 harg4 arg5 harg5 arg6 harg6 accM (Memref.isWhole_whole _) rowM (Memref.isWhole_whole _) colM (Memref.isWhole_whole _)
    xt0 xt1 hw ht pi pj sc out s.2.1 s.2.2 s.1 Set.univ K

/-- What the body leaves at a point of the grid, the scratch known before it, in numbers. -/
theorem run_at (c : Dev nD) (t : Fin (cfgM m).N) (s : Scratch F) (out : Vec F S5x1x1024 .f32) (K : PUnit → sProp 𝕄) :
    iprop(owns (c : Thread nD τ) (ms0 m t) fullShare (boxes m c (rowAt t)) ∗ owns (c : Thread nD τ) (ms1 m t) fullShare (boxes m c (colAt t))
        ∗ owns (c : Thread nD τ) (ms2 m t) fullShare (scores m c) ∗ owns (c : Thread nD τ) (ms3 m t) fullShare out
        ∗ owns (c : Thread nD τ) accM fullShare s.1 ∗ owns (c : Thread nD τ) rowM fullShare s.2.1 ∗ owns (c : Thread nD τ) colM fullShare s.2.2
        ∗ tblPt c rowTbl (tbl m 0) ∗ tblPt c colTbl (tbl m 1)
        ∗ (iprop(owns (c : Thread nD τ) (ms0 m t) fullShare (boxes m c (rowAt t)) ∗ owns (c : Thread nD τ) (ms1 m t) fullShare (boxes m c (colAt t))
          ∗ owns (c : Thread nD τ) (ms2 m t) fullShare (scores m c)
          ∗ owns (c : Thread nD τ) (ms3 m t) fullShare (outAfter m c t s out)
          ∗ owns (c : Thread nD τ) accM fullShare (scratchAfter m c t s).1
          ∗ owns (c : Thread nD τ) rowM fullShare (scratchAfter m c t s).2.1
          ∗ owns (c : Thread nD τ) colM fullShare (scratchAfter m c t s).2.2
          ∗ tblPt c rowTbl (tbl m 0) ∗ tblPt c colTbl (tbl m 1)) -∗ K ⟨⟩))
      ⊢ wp frame (wpE (defs₀ (F := F)) Variants.none c none) Set.univ (bodyAt m t) K := by
  have e0 := word_0 m c (grid0.coords t)
  have e1 := word_1 m c (grid0.coords t)
  rw [outAfter_eq m c t s out, scratchAfter_eq m c t s]
  exact run_words c (grid0.coords t) (ms0 m t) (hstage0_0 (((cfgM m).slots t 0).cast nbuf0_0)) (ms1 m t) (hstage0_1 (((cfgM m).slots t 1).cast nbuf0_1))
    (ms2 m t) (hstage0_2 (((cfgM m).slots t 2).cast nbuf0_2)) (ms3 m t) (hstage0_3 (((cfgM m).slots t 3).cast nbuf0_3))
    (tbl m 0) (tbl m 1) (lit1 (pt t)) (lit2 (pt t)) e0 e1 (words_ok (pt t)) (tests (grid0.coords t))
    (boxes m c (rowAt t)) (boxes m c (colAt t)) (scores m c) out s K

/-- What the body is called with at a point, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))
/-- and what it returns. -/
def bodyPost (c : Dev nD) (t : Fin (cfgM m).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

/-- Each input window is left at its block. -/
theorem leaves_0 (c : Dev nD) (t : Fin (cfgM m).N) : (dats m 0 c).leavesExact 0 t = owns (c : Thread nD τ) (ms0 m t) fullShare (boxes m c (rowAt t)) := by
  rw [← iblk_0 m c t, ← after_0 m c t]
  unfold Dat.leavesExact; rw [show (cfgM m).idle 0 ((cfgM m).grid.coords t) = false from rfl]; try rfl
/-- What the schedule asks of the column boxes' buffer after a step. -/
theorem leaves_1 (c : Dev nD) (t : Fin (cfgM m).N) : (dats m 0 c).leavesExact 1 t = owns (c : Thread nD τ) (ms1 m t) fullShare (boxes m c (colAt t)) := by
  rw [← iblk_1 m c t, ← after_1 m c t]
  unfold Dat.leavesExact; rw [show (cfgM m).idle 1 ((cfgM m).grid.coords t) = false from rfl]; try rfl
/-- What the schedule asks of the scores' buffer after a step. -/
theorem leaves_2 (c : Dev nD) (t : Fin (cfgM m).N) : (dats m 0 c).leavesExact 2 t = owns (c : Thread nD τ) (ms2 m t) fullShare (scores m c) := by
  rw [← iblk_2 m c t, ← after_2 m c t]
  unfold Dat.leavesExact; rw [show (cfgM m).idle 2 ((cfgM m).grid.coords t) = false from rfl]; try rfl
/-- The output is left as it was before the last point, at the decayed scores there. -/
theorem leaves_3 (c : Dev nD) (t : Fin (cfgM m).N) (h : t.val = 14) :
    (dats m 0 c).leavesExact 3 t = owns (c : Thread nD τ) (ms3 m t) fullShare (decayed (boxes m c) (scores m c)) := by
  rw [← after_3 m c t]
  unfold Dat.leavesExact; rw [show (cfgM m).idle 3 ((cfgM m).grid.coords t) = false from live_3 t h]; try rfl
/-- What the schedule asks of the output buffer before the last step. -/
theorem keeps_3 (c : Dev nD) (t : Fin (cfgM m).N) (h : t.val ≠ 14) :
    (dats m 0 c).leavesExact 3 t = iprop(∃ d, owns (c : Thread nD τ) (ms3 m t) fullShare ((dats m 0 c).before 3 t d)) :=
  Dat.leavesExact_idle (dats m 0 c) 3 t (idle_3 t h) (noFlush_3 t h)

/-- So the body leaves the output's staging buffer as it must. -/
theorem close_3 (c : Dev nD) (t : Fin (cfgM m).N) (s : Scratch F) (X : Vec F S5x1x1024 .f32) (d) (hX : (dats m 0 c).before 3 t d = X)
    (hs : BeforePoint (boxes m c) t.val s) : owns (c : Thread nD τ) (ms3 m t) fullShare (outAfter m c t s X) ⊢ ((dats m 0 c).leavesExact 3 t : sProp 𝕄) := by
  by_cases h14 : t.val = 14
  · rw [leaves_3 m c t h14, outAfter_last m c t s X h14 hs]
  · rw [keeps_3 m c t h14, outAfter_other m c t s X h14]
    subst hX
    iintro H; iexists d; iexact H

set_option maxHeartbeats 1600000 in
/-- The body at any point keeps the invariant. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost
  simp only [before_0 m (dats m 0 c) (A_eq m c 0) (after_0 m c) t, before_1 m (dats m 0 c) (A_eq m c 1) (after_1 m c) t,
    before_2 m (dats m 0 c) (A_eq m c 2) (after_2 m c) t, iblk_0, iblk_1, iblk_2]
  rw [show (dats m 0 c).owesAt () t.succ = (dats m 0 c).owesAt () t.castSucc from rfl, leaves_0, leaves_1, leaves_2,
    show (dats m 0 c).Φ t.castSucc = Inv m c t.val from rfl, show (dats m 0 c).Φ t.succ = Inv m c (t.val + 1) from rfl]
  unfold Inv
  iintro ⟨⟨⟨%s, %hs, HA, HR, HC⟩, Hg, HT0, HT1⟩, Ho, ⟨%d0, H0⟩, ⟨%d1, H1⟩, ⟨%d2, H2⟩, ⟨%d3, H3⟩⟩
  have hs' := known_after m c t s hs
  iapply (run_at m c t s ((dats m 0 c).before 3 t d3) _)
  isplitl [H0]; · iexact H0
  isplitl [H1]; · iexact H1
  isplitl [H2]; · iexact H2
  isplitl [H3]; · iexact H3
  isplitl [HA]; · iexact HA
  isplitl [HR]; · iexact HR
  isplitl [HC]; · iexact HC
  isplitl [HT0]; · iexact HT0
  isplitl [HT1]; · iexact HT1
  iintro ⟨H0, H1, H2, H3, HA, HR, HC, HT0, HT1⟩
  isplitl [HA HR HC Hg HT0 HT1]
  · isplitl [HA HR HC]
    · iexists _; isplitr; · ipureintro; exact hs'
      isplitl [HA]; · iexact HA
      isplitl [HR]; · iexact HR
      iexact HC
    isplitl [Hg]; · iexact Hg
    isplitl [HT0]; · iexact HT0
    iexact HT1
  isplitl [Ho]; · iexact Ho
  isplitl [H0]; · iexact H0
  isplitl [H1]; · iexact H1
  isplitl [H2]; · iexact H2
  iapply (close_3 m c t s _ d3 rfl hs); iexact H3

/-- The body table's entry at a point is the body there. -/
theorem defs₀_row (t : Fin (cfgM m).N) :
    defs₀ (F := F) .tc (cfgM m).body ((cfgM m).bodyArgs t ((cfgM m).slots t)) = bodyAt m t := by
  unfold defs₀; rw [Defs.onTc_tc]

/-- The pipeline's obligation of the body. -/
theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

/-- What the launch hands the region, buffer by buffer. -/
theorem scoped_eq (c : Dev nD) : (Pipeline.ΦA spec0 c : sProp 𝕄)
    = iprop(((∃ d, owns (c : Thread nD τ) accM fullShare d) ∗ (∃ d, owns (c : Thread nD τ) rowM fullShare d) ∗ (∃ d, owns (c : Thread nD τ) colM fullShare d)) ∗ (∃ r, prngReg c r)) := by
  unfold Pipeline.ΦA; rw [scopedRest0_eq]; simp only [accM, rowM, colM, owns_whole]; try rfl

/-- It is the invariant before the first point. -/
theorem inv_in (c : Dev nD) : iprop(Pipeline.ΦA spec0 c ∗ Pipeline.ΦT pre0 (tbl m) c) ⊢ (dats m 0 c).Φ 0 := by
  rw [show (dats m 0 c).Φ 0 = Inv m c 0 from rfl, scoped_eq, tables_eq]
  unfold Inv
  iintro ⟨⟨⟨⟨%a, HA⟩, ⟨%r, HR⟩, ⟨%k, HC⟩⟩, Hg⟩, HT0, HT1⟩
  isplitl [HA HR HC]
  · iexists (a, r, k); isplitr; · ipureintro; exact before_first (boxes m c) _
    isplitl [HA]; · iexact HA
    isplitl [HR]; · iexact HR
    iexact HC
  isplitl [Hg]; · iexact Hg
  isplitl [HT0]; · iexact HT0
  iexact HT1

/-- The invariant after the last point gives it back. -/
theorem inv_out (c : Dev nD) : (dats m 0 c).Φ (Fin.last (cfgM m).N) ⊢ Pipeline.ΦA spec0 c := by
  rw [show (dats m 0 c).Φ (Fin.last (cfgM m).N) = Inv m c (Fin.last (cfgM m).N).val from rfl, scoped_eq]
  unfold Inv
  iintro ⟨⟨%s, -, HA, HR, HC⟩, Hg, -, -⟩
  isplitl [HA HR HC]
  · isplitl [HA]; · iexists _; iexact HA
    isplitl [HR]; · iexists _; iexact HR
    iexists _; iexact HC
  iexact Hg

/-! ## The run -/

variable (ρ : Dev nD → PrngReg)

set_option backward.isDefEq.respectTransparency.types false in
set_option maxHeartbeats 800000 in
/-- From any memory with zero counters the program ends, with the pipeline's arrays as the proof data say, every other
    buffer as the host lines leave it, and every counter at zero. -/
theorem run_pipeline : θ_run defs (onTc (τ := τ) (main (F := F))) (s₀ m ρ) (fun r =>
    Pipeline.FramePost (Pipeline.pin pcfgs fun _ => adm m) (dats m) 0 (Pipeline.afterTail pcfgs (fun _ => adm m) (dats m) 0 (entryVal m) [hostOps1]) r
      ∧ r.2.sem = fun _ => 0) :=
  Pipeline.θ_run_frameP_around_track_shared pcfgs (fun _ => adm m) (dats m) (0 : Fin 1) launch₀0 defs₀ Variants.none m ρ main
    (hbody := fun c => (body_obligation m c).loose) (hq := fun c w _ => rfl)
    (howed := fun _ _ => rfl) (V₀ := entryVal m) (opss := [hostOps1]) (hsub := tail_sub) (hfresh := tail_fresh) (hkeep := tail_keeps)
    (hmain := main_around m Variants.none) (hA := A_eq m) (hpf := entry_tbl m) (hin := inv_in m) (hout := inv_out m) _ (fun _ h => h)

/-- The output array after the run: the decayed scores. -/
theorem array_out (c : Dev nD) : (dats m 0 c).arrAt 3 (cfgM m).N = (decayed (boxes m c) (scores m c) : Buf (Elt F) ((c : Thread nD τ).loc main_v27)) := by
  refine (dats m 0 c).arrAt_eq_of_after_last 3 t0_14 ?_ _ fun j => ?_
  · exact ⟨lastFlush_3, fun t => onlyFlush_3 t, fun (a : Fin 3) => ⟨originIndex_3 a, by
      match a with
      | 0 => rfl
      | 1 => rfl
      | 2 => rfl⟩⟩
  rw [after_3 (t := t0_14)]
  rfl

end Cert.KernelIdeal.Decay

end
-- ==== Proof.Result.lean ====
module

public import proofs.«01_k».proof.Proof.Run
public import Idealize.ShloMosaic.Lib.Claim

@[expose] public section

set_option maxRecDepth 16384

/-! The kernel's run, read at its arguments and its result. -/

noncomputable section

namespace Cert.KernelIdeal.Decay

open Cert.KernelIdeal.Gen
open Idealize.ShloMosaic Idealize.ShloMosaic.TcCoe Idealize.ShloMosaic.Tactic
open Idealize.SL.Sem
open Idealize.ShloMosaic.Pipeline (Dat)

variable {F : FTy → Type} [FloatOps F]

variable (m : (ℓ : Loc nD τ sig) → Buf (Elt F) ℓ) (ρ : Dev nD → PrngReg)

/-- The decayed scores in one row, without those of the padding. -/
def unpad (x : Vec F S5x1x1024 .f32) : Vec F S5000 .f32 :=
  extractStridedSlice S5000 ![0] (shapeCast S5120 x shapeCasts_S5x1x1024_S5120) slices_S5120_S5000_0

/-- The result: the decayed scores of the boxes that are not padding. -/
def result (c : Dev nD) : Vec F S5000 .f32 := unpad (decayed (boxes m c) (scores m c))

/-- What the host lines after the pipeline make of its output array. -/
theorem tail_lines (V : Valuation τ sig (Elt F)) :
    StableHlo.after hostOps1 V (Proc.devRef .tc main_v29) = (unpad (V (Proc.devRef .tc main_v27)) : Vec F S5000 .f32) := by
  unfold hostOps1 unpad
  rw [StableHlo.after_cons, StableHlo.after_cons, StableHlo.after_nil, StableHlo.unary_result, StableHlo.reshape_result]
  rfl

/-- The host lines after the pipeline leave the result's buffer at `result`. -/
theorem tail_result (c : Dev nD) :
    Pipeline.afterTail pcfgs (fun _ => adm m) (dats m) 0 (entryVal m) [hostOps1] c main_v29 = (result m c : Buf (Elt F) ((c : Thread nD τ).loc main_v29)) := by
  have hv : Pipeline.withArrays spec0 c (entryVal m c) (fun w => (dats m 0 c).arrAt w (cfgM m).N) (Proc.devRef .tc main_v27)
      = (decayed (boxes m c) (scores m c) : Buf (Elt F) ((c : Thread nD τ).loc main_v27)) :=
    (Dat.withArrays_arrAt (dats m 0 c) sharedIn0 (entryVal m c) (A_eq m c) 3).trans (array_out m c)
  exact (tail_lines _).trans (congrArg (unpad (F := F)) hv)

/-- The result's and the arguments' buffers are not arrays of the pipeline. -/
theorem rest_refs : main_v29 ∈ Pipeline.restRefs sig spec0 ∧ main_arg0 ∈ Pipeline.restRefs sig spec0 ∧ main_arg1 ∈ Pipeline.restRefs sig spec0 := by decide

/-- THE RUN: the result, the arguments as launched, every counter at zero. -/
theorem run : θ_run defs (onTc (τ := τ) (main (F := F))) ⟨m, fun _ => 0, ρ⟩ (fun r =>
    (∀ c : Dev nD, r.2.mem ((c.tc : Thread nD τ).loc main_v29) = result m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
      ⟨((h.1 c).2 main_v29 rest_refs.1).trans (tail_result m c),
        ((h.1 c).2 main_arg0 rest_refs.2.1).trans (tail_arg m (dats m) c _ (.inl rfl)),
        ((h.1 c).2 main_arg1 rest_refs.2.2).trans (tail_arg m (dats m) c _ (.inr rfl))⟩, h.2⟩) (run_pipeline m ρ)

end Cert.KernelIdeal.Decay

end
-- ==== Proof.KernelFrame.lean ====
module

public import proofs.«01_k».proof.Defs
public import proofs.«01_k».proof.Proof.Result
public import proofs.«01_k».proof.Proof.Gen.Kernel

@[expose] public section

set_option maxRecDepth 100000
set_option maxHeartbeats 4000000

/-! The kernel's program over bits and the program run over any float values have one text; its frame is taken from that
    run. -/

noncomputable section

namespace Cert.Proof

open Idealize.ShloMosaic Idealize.SL.Sem

/-- The two programs' bodies are one. -/
theorem body_eq : Cert.Kernel.cc0__tri_body (F := Bits) = Cert.KernelIdeal.cc0__tri_body (F := Bits) := by
  funext i
  unfold Cert.Kernel.cc0__tri_body Cert.KernelIdeal.cc0__tri_body
  rfl

/-- So their body tables are one. -/
theorem bodies_eq : Cert.Kernel.defs₀ (F := Bits) = Cert.KernelIdeal.defs₀ (F := Bits) := by
  unfold Cert.Kernel.defs₀ Cert.KernelIdeal.defs₀
  rw [body_eq]
  congr 1
  funext l a
  match l, a with
  | 0, (t, s) => rfl

/-- So are their pipelines. -/
theorem pipelines_eq : Cert.Kernel.pcfgs (F := Bits) = Cert.KernelIdeal.pcfgs (F := Bits) := by
  funext i
  rfl

/-- So are their tables of definitions. -/
theorem defs_eq : Cert.Kernel.defs (F := Bits) = Cert.KernelIdeal.defs (F := Bits) := by
  unfold Cert.Kernel.defs Cert.KernelIdeal.defs
  rw [bodies_eq]
  rfl

/-- Their main programs are one. -/
theorem main_eq : Cert.Kernel.main (F := Bits) = Cert.KernelIdeal.main (F := Bits) := rfl

/-- The kernel over bits ends with its arguments as launched and every counter at zero. -/
theorem frame_kernel : Cert.quiescent_Kernel := fun m ρ _ => by
  rw [defs_eq, main_eq]
  exact (θ_run Cert.KernelIdeal.defs _ _).mono (fun _ h => ⟨fun c => (h.1 c).2, h.2⟩) (Cert.KernelIdeal.Decay.run (F := Bits) m ρ)

end Cert.Proof

end
-- ==== Proof.Pair.lean ====
module

public import proofs.«01_k».proof.Proof.State
public import Idealize.ShloMosaic.Lib.Pointwise

@[expose] public section

set_option maxRecDepth 16384

/-! What one point of the kernel adds, entry by entry, over the extended reals: the sum over a block of one number per
    pair of boxes. -/

noncomputable section

namespace Cert.KernelIdeal.Decay

open Cert.KernelIdeal.Gen
open Idealize.ShloMosaic

/-! ## A pair of boxes -/

/-- A box as the kernel reads it: columns 0 to 3 are its corners, 4 its area and 5 its score. -/
abbrev Row : Type := Fin 8 → EReal

/-- A box and its score as the kernel's rows spell them. -/
def boxRow (x : S5000x4.Idx → EReal) (s : S5000.Idx → EReal) (i : Fin 5000) : Row :=
  ![x (ix2 i 0), x (ix2 i 1), x (ix2 i 2), x (ix2 i 3),
    (x (ix2 i 2) - x (ix2 i 0)) * (x (ix2 i 3) - x (ix2 i 1)), s (ix1 i), 0, 0]

/-- The area two boxes have in common. -/
def overlap (p q : Row) : EReal :=
  max (min (p 2) (q 2) - max (p 0) (q 0)) 0 * max (min (p 3) (q 3) - max (p 1) (q 1)) 0
/-- The common area over the area of the union. -/
def ratio (p q : Row) : EReal := Ideal.div (overlap p q) (p 4 + q 4 - overlap p q)
/-- What box `q` adds to the decay of box `p`: nothing unless it has the higher score. -/
def share (p q : Row) : EReal := if p 5 < q 5 then ratio p q * ratio p q else 0

/-- The common area does not depend on the order. -/
theorem overlap_comm (p q : Row) : overlap p q = overlap q p := by
  unfold overlap; rw [min_comm (p 2), max_comm (p 0), min_comm (p 3), max_comm (p 1)]
/-- Nor does the ratio. -/
theorem ratio_comm (p q : Row) : ratio p q = ratio q p := by
  unfold ratio; rw [overlap_comm p q, add_comm (p 4)]

/-! ## One point -/

/-- Row `i` of a block of boxes. -/
def boxAt (P : Vec Ideal S1024x8 .f32) (i : Fin 1024) : Row := fun k => P (ix2 i k)

/-- A column of a block, entry by entry. -/
theorem column_apply (P : Vec Ideal S1024x8 .f32) (k : Fin 8) (h : ∀ a, (![0, k.val] : Fin 2 → ℕ) a + S1024x1.size a ≤ S1024x8.size a)
    (i : Fin 1024) (z : Fin 1) : column P k.val h (ix2 i z) = P (ix2 i k) := by
  refine congrArg P (funext fun a => Fin.ext ?_)
  fin_cases a
  · show 0 + 1 * i.val = i.val; omega
  · show k.val + 1 * z.val = k.val; omega

/-- Two numbers' comparison as the kernel chooses by it. -/
theorem select_gt (x y a b : EReal) : Scalar.select (Ideal.cmp .ogt x y) a b = if y < x then a else b := by
  unfold Ideal.cmp Scalar.select
  by_cases h : y < x <;> simp [h]

/-- The six columns that a point reads of its block of rows. -/
theorem columns_apply (P : Vec Ideal S1024x8 .f32) (i : Fin 1024) (z : Fin 1) :
    column P 0 inb_S1024x8_S1024x1_0_0 (ix2 i z) = P (ix2 i 0) ∧ column P 1 inb_S1024x8_S1024x1_0_1 (ix2 i z) = P (ix2 i 1)
    ∧ column P 2 inb_S1024x8_S1024x1_0_2 (ix2 i z) = P (ix2 i 2) ∧ column P 3 inb_S1024x8_S1024x1_0_3 (ix2 i z) = P (ix2 i 3)
    ∧ column P 4 inb_S1024x8_S1024x1_0_4 (ix2 i z) = P (ix2 i 4) ∧ column P 5 inb_S1024x8_S1024x1_0_5 (ix2 i z) = P (ix2 i 5) :=
  ⟨column_apply P 0 _ i z, column_apply P 1 _ i z, column_apply P 2 _ i z, column_apply P 3 _ i z, column_apply P 4 _ i z,
    column_apply P 5 _ i z⟩

/-- The row accumulator gains, at box `i` of the block of rows, the share of every box of the block of columns. -/
theorem accStep_apply (P Q : Vec Ideal S1024x8 .f32) (a : Vec Ideal S1024x1 .f32) (i : Fin 1024) :
    accStep P Q a (ix2 i 0) = a (ix2 i 0) + ∑ j : Fin 1024, share (boxAt P i) (boxAt Q j) := by
  have c := columns_apply P
  unfold accStep
  generalize column P 0 _ = p0 at *
  generalize column P 1 _ = p1 at *
  generalize column P 2 _ = p2 at *
  generalize column P 3 _ = p3 at *
  generalize column P 4 _ = p4 at *
  generalize column P 5 _ = p5 at *
  pointwise [k0_pay2, k0_pay1, k0_pay8, k0_pay9, k0_pay10, k0_pay11, k0_pay12, k0_pay13, k0_pay14]
  obtain ⟨h0, h1, h2, h3, h4, h5⟩ := c i 0
  rw [h0, h1, h2, h3, h4, h5]
  rfl

/-- The column sums gain, at box `j` of the block of columns, the share of every box of the block of rows. -/
theorem colStep_apply (P Q : Vec Ideal S1024x8 .f32) (b : Vec Ideal S1x1x1024 .f32) (j : Fin 1024) :
    colStep P Q b (ix3 0 0 j) = b (ix3 0 0 j) + ∑ i : Fin 1024, share (boxAt Q j) (boxAt P i) := by
  have c := columns_apply P
  unfold colStep
  generalize column P 0 _ = p0 at *
  generalize column P 1 _ = p1 at *
  generalize column P 2 _ = p2 at *
  generalize column P 3 _ = p3 at *
  generalize column P 4 _ = p4 at *
  generalize column P 5 _ = p5 at *
  pointwise [k0_pay3, k0_pay1, k0_pay8, k0_pay9, k0_pay10, k0_pay11, k0_pay12, k0_pay13, k0_pay14]
  refine congrArg (b (ix3 0 0 j) + ·) (Finset.sum_congr rfl fun i _ => ?_)
  obtain ⟨h0, h1, h2, h3, h4, h5⟩ := c i 0
  rw [h0, h1, h2, h3, h4, h5]
  show _ = if Q (ix2 j 5) < P (ix2 i 5) then ratio (boxAt Q j) (boxAt P i) * ratio (boxAt Q j) (boxAt P i) else 0
  rw [ratio_comm]
  rfl

/-! ## All points -/

/-- The shares of a whole block. -/
def blockShare (p : Row) (Q : Vec Ideal S1024x8 .f32) : EReal := ∑ j : Fin 1024, share p (boxAt Q j)

/-- The row accumulator holds the shares of the blocks of columns added so far. -/
theorem rowAcc_apply (P : ℕ → Vec Ideal S1024x8 .f32) (b : ℕ) (i : Fin 1024) :
    ∀ n, rowAcc P b n (ix2 i 0) = ∑ k ∈ Finset.range n, blockShare (boxAt (P b) i) (P k)
  | 0 => by
    show k0_pay7 (F := Ideal) (ix2 i 0) = _
    pointwise [k0_pay7]
    rfl
  | n + 1 => by
    rw [Finset.sum_range_succ, ← rowAcc_apply P b i n]
    exact accStep_apply _ _ _ i

/-- The column sums hold the shares of the blocks of rows below the diagonal added so far. -/
theorem colSum_apply (P : ℕ → Vec Ideal S1024x8 .f32) (j : ℕ) (i : Fin 1024) :
    ∀ n, colSum P j n (ix3 0 0 i) = ∑ k ∈ Finset.range n, if j < k then blockShare (boxAt (P j) i) (P k) else 0
  | 0 => by
    show k0_pay6 (F := Ideal) (five j (ix3 0 0 i)) = _
    pointwise [k0_pay6]
    rfl
  | n + 1 => by
    rw [Finset.sum_range_succ, ← colSum_apply P j i n]
    show (if j < n then colStep (P n) (P j) (colSum P j n) else colSum P j n) (ix3 0 0 i) = _
    by_cases h : j < n
    · rw [if_pos h, if_pos h]; exact colStep_apply _ _ _ i
    · rw [if_neg h, if_neg h, add_zero]

/-- A block of the finished row sums. -/
theorem rowSum_apply (P : ℕ → Vec Ideal S1024x8 .f32) (b : ℕ) (i : Fin 1024) :
    rowSum P b (ix3 0 0 i) = ∑ k ∈ Finset.range (b + 1), blockShare (boxAt (P b) i) (P k) := by
  rw [← rowAcc_apply P b i (b + 1)]
  unfold rowSum
  generalize rowAcc P b (b + 1) = a
  pointwise [k0_pay4]

/-- The two sums of a box are together the shares of all five blocks. -/
theorem sums_apply (P : ℕ → Vec Ideal S1024x8 .f32) (b : ℕ) (hb : b < 5) (i : Fin 1024) :
    rowSum P b (ix3 0 0 i) + colSum P b 5 (ix3 0 0 i) = ∑ k ∈ Finset.range 5, blockShare (boxAt (P b) i) (P k) := by
  rw [rowSum_apply, colSum_apply]
  have split : ∀ f : ℕ → EReal, (∑ k ∈ Finset.range (b + 1), f k) = ∑ k ∈ Finset.range 5, if b < k then 0 else f k := by
    intro f
    clear * - hb
    interval_cases b <;> simp [Finset.sum_range_succ]
  rw [split, ← Finset.sum_add_distrib]
  refine Finset.sum_congr rfl fun k _ => ?_
  by_cases h : b < k
  · rw [if_pos h, if_pos h, zero_add]
  · rw [if_neg h, if_neg h, add_zero]

/-- What the kernel makes of one box. -/
theorem decayed_apply (P : ℕ → Vec Ideal S1024x8 .f32) (sc : Vec Ideal S5x1x1024 .f32) (b : Fin 5) (i : Fin 1024) :
    decayed P sc (ix3 b 0 i)
      = sc (ix3 b 0 i) * Ideal.exp ((∑ k ∈ Finset.range 5, blockShare (boxAt (P b.val) i) (P k)) * Ideal.ofBits .f32 0xC0000000#32) := by
  have hw : within (ix3 b 0 i) = ix3 0 0 i := by
    funext a; fin_cases a <;> rfl
  have h := sums_apply P b.val b.isLt i
  rw [← hw] at h
  rw [← h]
  unfold decayed
  pointwise [k0_pay5]
  rfl

end Cert.KernelIdeal.Decay
-- ==== Proof.Entry.lean ====
module

public import proofs.«01_k».proof.Proof.Result
public import proofs.«01_k».proof.Proof.Pair

@[expose] public section

set_option maxRecDepth 16384

noncomputable section

namespace Cert.KernelIdeal.Decay

open Cert.KernelIdeal.Gen
open Idealize.ShloMosaic Idealize.ShloMosaic.TcCoe Idealize.ShloMosaic.Tactic

variable (m : (ℓ : Loc nD τ sig) → Buf (Elt Ideal) ℓ)

/-- The two arguments of the program: the boxes and the scores. -/
abbrev inBoxes (c : Dev nD) : S5000x4.Idx → EReal := m ((c : Thread nD τ).loc main_arg0)
/-- The scores argument on a device. -/
abbrev inScores (c : Dev nD) : S5000.Idx → EReal := m ((c : Thread nD τ).loc main_arg1)

/-- A column of boxes as the eight columns are put together from. -/
abbrev asColumn (v : FVec Ideal S5000 .f32) : FVec Ideal S5000x1 .f32 := broadcastInDim S5000x1 ![0] bcast_S5000_S5000x1_0 v
/-- The four columns of corners. -/
abbrev left (x : FVec Ideal S5000x4 .f32) : FVec Ideal S5000 .f32 :=
  shapeCast S5000 (extractStridedSlice S5000x1 ![0, 0] x slices_S5000x4_S5000x1_0_0) shapeCasts_S5000x1_S5000
/-- The second coordinate of every box. -/
abbrev top (x : FVec Ideal S5000x4 .f32) : FVec Ideal S5000 .f32 :=
  shapeCast S5000 (extractStridedSlice S5000x1 ![0, 1] x slices_S5000x4_S5000x1_0_1) shapeCasts_S5000x1_S5000
/-- The third coordinate of every box. -/
abbrev right (x : FVec Ideal S5000x4 .f32) : FVec Ideal S5000 .f32 :=
  shapeCast S5000 (extractStridedSlice S5000x1 ![0, 2] x slices_S5000x4_S5000x1_0_2) shapeCasts_S5000x1_S5000
/-- The fourth coordinate of every box. -/
abbrev bottom (x : FVec Ideal S5000x4 .f32) : FVec Ideal S5000 .f32 :=
  shapeCast S5000 (extractStridedSlice S5000x1 ![0, 3] x slices_S5000x4_S5000x1_0_3) shapeCasts_S5000x1_S5000
/-- A column of zeros. -/
abbrev zeros : FVec Ideal S5000 .f32 := broadcastInDim S5000 ![] bcast_S_S5000 (constant S_ .f32 0x00000000#32)

/-- The boxes and scores as the kernel's array of rows, and the rows of padding after them. -/
def packed (x : FVec Ideal S5000x4 .f32) (s : FVec Ideal S5000 .f32) : FVec Ideal S5120x8 .f32 :=
  concatenate S5120x8 0
    [⟨S5000x8, concatenate S5000x8 1
        [⟨S5000x1, asColumn (left x)⟩, ⟨S5000x1, asColumn (top x)⟩, ⟨S5000x1, asColumn (right x)⟩, ⟨S5000x1, asColumn (bottom x)⟩,
         ⟨S5000x1, asColumn (mulf (subf (right x) (left x)) (subf (bottom x) (top x)))⟩, ⟨S5000x1, asColumn s⟩,
         ⟨S5000x1, asColumn zeros⟩, ⟨S5000x1, asColumn zeros⟩]
        concatenates_S5000x1_S5000x1_S5000x1_S5000x1_S5000x1_S5000x1_S5000x1_S5000x1_S5000x8_d1⟩,
     ⟨S120x8, broadcastInDim S120x8 ![0, 1] bcast_S1x8_S120x8_0_1 (fun i => FloatOps.ofBits .f32 (lit0 (S1x8.rowMajor i)))⟩]
    concatenates_S5000x8_S120x8_S5120x8_d0

set_option maxHeartbeats 4000000 in
/-- The array the region is entered with. -/
theorem entry_packed (c : Dev nD) : (entry m c main_v23 : S5120x8.Idx → EReal)
    = packed (inBoxes m c) (inScores m c) := by
  unfold_abbrev_sides
  after_reads_simp
  unfold packed
  congr 4

set_option maxHeartbeats 4000000 in
/-- A row of it that is a box. -/
theorem packed_box (x : FVec Ideal S5000x4 .f32) (s : FVec Ideal S5000 .f32) (r : Fin 5120) (hr : r.val < 5000) :
    (fun k : Fin 8 => packed x s (ix2 r k)) = boxRow x s ⟨r.val, hr⟩ := by
  funext k
  pointwise [packed]
  rw [dif_pos hr]
  fin_vals k with hk
  all_goals simp only [hk, Nat.reduceSub, Nat.reduceLT, ↓reduceDIte]
  all_goals first
    | (have e : k = 0 := Fin.ext hk; subst e)
    | (have e : k = 1 := Fin.ext hk; subst e)
    | (have e : k = 2 := Fin.ext hk; subst e)
    | (have e : k = 3 := Fin.ext hk; subst e)
    | (have e : k = 4 := Fin.ext hk; subst e)
    | (have e : k = 5 := Fin.ext hk; subst e)
    | (have e : k = 6 := Fin.ext hk; subst e)
    | (have e : k = 7 := Fin.ext hk; subst e)
  all_goals pointwise [boxRow]
  all_goals rfl

/-- A row of it that is padding: its score is below every other. -/
theorem packed_pad (x : FVec Ideal S5000x4 .f32) (s : FVec Ideal S5000 .f32) (r : Fin 5120) (hr : ¬ r.val < 5000) :
    packed x s (ix2 r 5) = ⊥ := by
  pointwise [packed]
  rw [dif_neg hr]
  have h : lit0 (S1x8.rowMajor (ix2 0 5)) = 0xFF800000#32 := by decide +kernel
  rw [h]
  simp [Ideal.ofBits, Ideal.ieee]

/-- The call's array of scores: the score column of the packed rows, cut into blocks. -/
theorem entry_scores (c : Dev nD) : (entry m c main_v26 : S5x1x1024.Idx → EReal)
    = shapeCast S5x1x1024 (shapeCast S5120 (extractStridedSlice S5120x1 ![0, 5]
        (packed (inBoxes m c) (inScores m c)) slices_S5120x8_S5120x1_0_5)
        shapeCasts_S5120x1_S5120) shapeCasts_S5120_S5x1x1024 := by
  rw [← entry_packed]
  unfold_abbrev_sides
  after_reads_simp
  rfl

/-- A score of a block is the score entry of the packed row that it stands for. -/
theorem scores_apply (c : Dev nD) (b : Fin 5) (i : Fin 1024) :
    (scores m c : S5x1x1024.Idx → EReal) (ix3 b 0 i) = packed (inBoxes m c) (inScores m c)
      (ix2 ⟨b.val * 1024 + i.val, by omega⟩ 5) := by
  show (entry m c main_v26 : S5x1x1024.Idx → EReal) (ix3 b 0 i) = _
  rw [entry_scores]
  generalize packed _ _ = p
  pointwise

/-- The result keeps the first 5000 entries of the blocks laid end to end. -/
theorem unpad_apply (y : FVec Ideal S5x1x1024 .f32) (i : Fin 5000) :
    (unpad (F := Ideal) y : S5000.Idx → EReal) (ix1 i) = y (ix3 ⟨i.val / 1024, by omega⟩ 0 ⟨i.val % 1024, by omega⟩) := by
  pointwise [unpad]

/-- A row of a block of boxes is the packed row at the block's offset. -/
theorem boxes_apply (c : Dev nD) (b : Fin 5) (i : Fin 1024) (k : Fin 8) :
    (boxes m c b.val) (ix2 i k) = packed (inBoxes m c) (inScores m c)
      (ix2 ⟨b.val * 1024 + i.val, by omega⟩ k) := by
  show (entry m c main_v23 : S5120x8.Idx → EReal) (rowOf b.val (ix2 i k)) = _
  rw [entry_packed]
  refine congrArg _ (funext fun a => Fin.ext ?_)
  fin_cases a
  · show (b.val * 1024 + i.val) % 5120 = b.val * 1024 + i.val
    omega
  · rfl

/-! ## The kernel's value -/

/-- What box `n` adds to the decay of a box `p`; past the last box, nothing. -/
def shareOf (x : S5000x4.Idx → EReal) (s : S5000.Idx → EReal) (p : Row) (n : ℕ) : EReal :=
  if h : n < 5000 then share p (boxRow x s ⟨n, h⟩) else 0

/-- A row of a block adds what its box adds, and padding adds nothing. -/
theorem share_block (c : Dev nD) (p : Row) (b : Fin 5) (i : Fin 1024) :
    share p (boxAt (boxes m c b.val) i)
      = shareOf (inBoxes m c) (inScores m c) p (b.val * 1024 + i.val) := by
  have hrow : boxAt (boxes m c b.val) i = fun k => packed (inBoxes m c) (inScores m c)
      (ix2 ⟨b.val * 1024 + i.val, by omega⟩ k) := funext fun k => boxes_apply m c b i k
  rw [hrow]
  unfold shareOf
  by_cases h : b.val * 1024 + i.val < 5000
  · rw [dif_pos h, packed_box _ _ _ h]
  · rw [dif_neg h]
    unfold share
    exact if_neg (by show ¬ p 5 < packed _ _ (ix2 _ 5); rw [packed_pad _ _ ⟨_, _⟩ h]; exact not_lt_bot)

/-- The five blocks together add what the 5000 boxes add. -/
theorem share_blocks (c : Dev nD) (p : Row) :
    ∑ k ∈ Finset.range 5, blockShare p (boxes m c k)
      = ∑ j : Fin 5000, share p (boxRow (inBoxes m c) (inScores m c) j) := by
  generalize hg : shareOf (inBoxes m c) (inScores m c) p = g
  have h1 : ∑ k ∈ Finset.range 5, blockShare p (boxes m c k) = ∑ k ∈ Finset.range 5, ∑ i ∈ Finset.range 1024, g (k * 1024 + i) := by
    refine Finset.sum_congr rfl fun k hk => ?_
    rw [Finset.sum_range, ← hg]
    exact Finset.sum_congr rfl fun i _ => share_block m c p ⟨k, Finset.mem_range.mp hk⟩ i
  rw [h1, ← Finset.sum_range_mul_split]
  have h3 : ∑ n ∈ Finset.range (5 * 1024), g n = ∑ n ∈ Finset.range 5000, g n := by
    refine (Finset.sum_subset (fun n hn => ?_) fun n _ hn => ?_).symm
    · rw [Finset.mem_range] at hn ⊢; omega
    · rw [← hg]; exact dif_neg fun h => hn (Finset.mem_range.mpr h)
  rw [h3, Finset.sum_range, ← hg]
  exact Finset.sum_congr rfl fun j _ => dif_pos j.isLt

/-- What the kernel makes of box `i`. -/
theorem result_apply (c : Dev nD) (i : Fin 5000) :
    (result m c : S5000.Idx → EReal) (ix1 i)
      = inScores m c (ix1 i)
        * Ideal.exp ((∑ j : Fin 5000, share (boxRow (inBoxes m c) (inScores m c) i)
            (boxRow (inBoxes m c) (inScores m c) j)) * Ideal.ofBits .f32 0xC0000000#32) := by
  have hi : i.val / 1024 * 1024 + i.val % 1024 = i.val := Nat.div_add_mod' _ _
  have hb : i.val / 1024 < 5 := by omega
  have hl : i.val % 1024 < 1024 := Nat.mod_lt _ (by decide)
  have hsame : (⟨(⟨i.val / 1024, hb⟩ : Fin 5).val * 1024 + (⟨i.val % 1024, hl⟩ : Fin 1024).val, by show _ < _; omega⟩ : Fin 5120) = ⟨i.val, by omega⟩ :=
    Fin.ext hi
  have hrow : boxAt (boxes m c (⟨i.val / 1024, hb⟩ : Fin 5).val) ⟨i.val % 1024, hl⟩
      = boxRow (inBoxes m c) (inScores m c) i := by
    rw [← packed_box _ _ ⟨i.val, by omega⟩ i.isLt]
    refine funext fun k => (boxes_apply m c ⟨i.val / 1024, hb⟩ ⟨i.val % 1024, hl⟩ k).trans ?_
    rw [hsame]
  unfold result
  rw [unpad_apply, decayed_apply, scores_apply, hrow, share_blocks, hsame]
  refine congrArg (· * _) ?_
  exact congrFun (packed_box _ _ ⟨i.val, by omega⟩ i.isLt) 5

end Cert.KernelIdeal.Decay
-- ==== Proof.RefEntry.lean ====
module

public import proofs.«01_k».proof.Proof.Gen.ReferenceIdeal.Run
public import proofs.«01_k».proof.Proof.Pair

@[expose] public section

set_option maxRecDepth 16384

noncomputable section

namespace Cert.ReferenceIdeal.Decay

open Cert.ReferenceIdeal.Gen Cert.ReferenceIdeal.Value
open Cert.KernelIdeal.Decay (Row boxRow overlap overlap_comm)
open Idealize.ShloMosaic Idealize.ShloMosaic.TcCoe Idealize.ShloMosaic.Tactic Idealize.ShloMosaic.StableHlo

variable (m : (ℓ : Loc nD τ sig) → Buf (Elt Ideal) ℓ)

/-! ## One factor of the product -/

/-- The common area over the area of the union, the latter kept away from 0. -/
def capped (p q : Row) : EReal := Ideal.div (overlap p q) (max (p 4 + q 4 - overlap p q) (Ideal.ofBits .f32 0x322BCC77#32))
/-- One where box `q` has the higher score, zero elsewhere. -/
def higher (p q : Row) : EReal := FloatOps.uitofp (F := Ideal) .f32 (BitVec.ofBool (decide (p 5 < q 5)))
/-- What box `q` multiplies the score of box `p` by. -/
def factor (p q : Row) : EReal :=
  Ideal.exp (Ideal.div (-(capped p q * capped p q)) (Ideal.ofBits .f32 0x3F000000#32)) * higher p q + (1 - higher p q)

/-- The two arguments of the program: the boxes and the scores. -/
abbrev inBoxes (c : Dev nD) : S5000x4.Idx → EReal := m ((c : Thread nD τ).loc main_arg0)
/-- The scores argument on a device. -/
abbrev inScores (c : Dev nD) : S5000.Idx → EReal := m ((c : Thread nD τ).loc main_arg1)
/-- Box `i` and its score. -/
abbrev boxOf (c : Dev nD) (i : Fin 5000) : Row := boxRow (inBoxes m c) (inScores m c) i

/-- What the loop carries: the square of factors, the trip number and the product of each box so far. -/
abbrev factorsIn (V : Valuation τ sig (Elt Ideal)) : S5000x5000.Idx → EReal := V (Proc.devRef .tc main_v61_0)
/-- The loop's counter. -/
abbrev tripIn (V : Valuation τ sig (Elt Ideal)) : S_.Idx → BitVec 32 := V (Proc.devRef .tc main_v61_2)
/-- The running products. -/
abbrev productIn (V : Valuation τ sig (Elt Ideal)) : S5000.Idx → EReal := V (Proc.devRef .tc main_v61_3)

/-! ## The loop's carried values when it is entered -/

set_option maxHeartbeats 4000000 in
/-- The square of factors that the loop walks through. -/
theorem entry_factor (c : Dev nD) (i j : Fin 5000) :
    factorsIn (entryContents preI m c) (ix2 i j) = factor (boxOf m c i) (boxOf m c j) := by
  show entryContents preI m c (Proc.devRef .tc main_v61_0) (ix2 i j) = _
  simp only [entryContents, afterL_cons, afterL_nil]
  after_reads_simp
  simp only [TRef.toBuf, TRef.ofBuf, cast_eq, id_eq]
  show _ = factor (boxRow (launchContents m c (Proc.tc.devRef main_arg0)) (launchContents m c (Proc.tc.devRef main_arg1)) i)
    (boxRow (launchContents m c (Proc.tc.devRef main_arg0)) (launchContents m c (Proc.tc.devRef main_arg1)) j)
  generalize (launchContents m c (Proc.tc.devRef main_arg0) : S5000x4.Idx → EReal) = x
  generalize (launchContents m c (Proc.tc.devRef main_arg1) : S5000.Idx → EReal) = s
  pointwise
  simp only [max_comm (0 : EReal)]
  rfl

/-- The trip number is zero. -/
theorem entry_index (c : Dev nD) : tripIn (entryContents preI m c) = fun _ => 0#32 := by
  show entryContents preI m c (Proc.devRef .tc main_v61_2) = _
  simp only [entryContents, afterL_cons, afterL_nil]
  after_reads_simp
  rfl

/-- The product is empty. -/
theorem entry_product (c : Dev nD) (i : Fin 5000) :
    productIn (entryContents preI m c) (ix1 i) = 1 := by
  show entryContents preI m c (Proc.devRef .tc main_v61_3) (ix1 i) = (1 : EReal)
  simp only [entryContents, afterL_cons, afterL_nil]
  after_reads_simp
  rw [id_eq]
  pointwise

/-! ## The loop -/

/-- The square of factors stays as it is. -/
theorem iter_factor (c : Dev nD) : ∀ k, factorsIn (STEP^[k] (entryContents preI m c)) = factorsIn (entryContents preI m c)
  | 0 => rfl
  | k + 1 => by
    rw [Function.iterate_succ_apply']
    exact (STEP_main_v61_0 _).trans (iter_factor c k)

/-- The trip number counts up. -/
theorem iter_index (c : Dev nD) : ∀ k, tripIn (STEP^[k] (entryContents preI m c)) = fun _ => BitVec.ofNat 32 k
  | 0 => entry_index m c
  | k + 1 => by
    rw [Function.iterate_succ_apply']
    refine (STEP_main_v61_2 _).trans ?_
    unfold step_main_v61_2
    rw [show STEP^[k] (entryContents preI m c) (Proc.devRef .tc main_v61_2) = _ from iter_index c k]
    funext y
    show BitVec.ofNat 32 k + 1#32 = _
    rw [BitVec.ofNat_add]

/-- The column that a trip starts its slice at is its number: the number is never negative. -/
theorem start_word (k : Fin 5000) :
    (Scalar.select (IntOp.cmpi .slt (BitVec.ofNat 32 k) 0#32) (BitVec.ofNat 32 k + 5000#32) (BitVec.ofNat 32 k)).toInt = k := by
  have ht : (BitVec.ofNat 32 k).toInt = k := by
    rw [BitVec.toInt_ofNat']
    exact Int.bmod_eq_of_le (by omega) (by omega)
  have hs : IntOp.cmpi .slt (BitVec.ofNat 32 k) 0#32 = 0#1 := by
    have hn : ¬ ((k.val : ℤ) < 0) := by omega
    simp [IntOp.cmpi, BitVec.slt, ht, hn]
  rw [hs]
  exact ht

/-- A slice of one column of a square is that column. -/
theorem slice_column (x : FVec Ideal S5000x5000 .f32) (start : Fin 2 → ℤ) (k : Fin 5000) (h0 : start 0 = 0) (h1 : start 1 = k) (i : Fin 5000) :
    shapeCast S5000 (Host.dynamicSlice S5000x1 x start sliceFits_S5000x5000_S5000x1) shapeCasts_S5000x1_S5000 (ix1 i) = x (ix2 i k) := by
  pointwise
  refine congrArg x (congrArg₂ ix2 (Fin.ext ?_) (Fin.ext ?_))
  · refine (congrArg (· + i.val) (Host.clampedStart_of_le (s := S5000x5000) (t := S5000x1) rfl start (0 : Fin 2) 0 h0 ?_)).trans (Nat.zero_add _)
    simp
  · refine Host.clampedStart_of_le (s := S5000x5000) (t := S5000x1) rfl start (1 : Fin 2) k.val h1 ?_
    exact k.isLt

set_option maxHeartbeats 1000000 in
/-- One trip multiplies the product of each box by the factor in the trip's column. -/
theorem step_product (V : Valuation τ sig (Elt Ideal)) (k : Fin 5000)
    (hk : tripIn V = fun _ => BitVec.ofNat 32 k) (i : Fin 5000) :
    productIn (STEP V) (ix1 i)
      = productIn V (ix1 i) * factorsIn V (ix2 i k) := by
  refine (congrFun (STEP_main_v61_3 V) (ix1 i)).trans ?_
  unfold step_main_v61_3 res_main_while0b_v64
  rw [show V (Proc.devRef .tc main_v61_2) = _ from hk]
  simp only [id_eq]
  exact congrArg (productIn V (ix1 i) * ·) (slice_column (factorsIn V) _ k rfl (start_word k) i)

/-- After `k` trips each box has the product of the first `k` factors. -/
theorem iter_product (c : Dev nD) (i : Fin 5000) (g : ℕ → EReal) (hg : ∀ j : Fin 5000, g j.val = factor (boxOf m c i) (boxOf m c j)) :
    ∀ k, k ≤ 5000 → productIn (STEP^[k] (entryContents preI m c)) (ix1 i) = ∏ j ∈ Finset.range k, g j
  | 0, _ => by rw [Finset.prod_range_zero]; exact entry_product m c i
  | k + 1, h => by
    rw [Function.iterate_succ_apply', Finset.prod_range_succ, ← iter_product c i g hg k (by omega)]
    rw [step_product _ ⟨k, h⟩ (iter_index m c k) i, iter_factor, entry_factor, ← hg]

/-- The value of the program's result. -/
abbrev outIn (c : Dev nD) : S5000.Idx → EReal := out_main_v62 (STEP^[5000] (entryContents preI m c))
/-- What the program makes of box `i`. -/
theorem out_apply (c : Dev nD) (i : Fin 5000) :
    outIn m c (ix1 i) = inScores m c (ix1 i) * ∏ j : Fin 5000, factor (boxOf m c i) (boxOf m c j) := by
  obtain ⟨g, hg⟩ : ∃ g : ℕ → EReal, ∀ j : Fin 5000, g j.val = factor (boxOf m c i) (boxOf m c j) :=
    ⟨fun n => if h : n < 5000 then factor (boxOf m c i) (boxOf m c ⟨n, h⟩) else 1, fun j => dif_pos j.isLt⟩
  have h := iter_product m c i g hg 5000 le_rfl
  rw [Finset.prod_range, Finset.prod_congr rfl fun j _ => hg j] at h
  rw [← h]
  show out_main_v62 (STEP^[5000] (entryContents preI m c)) (ix1 i) = _
  unfold out_main_v62
  rw [iter_main_arg1]
  rfl

end Cert.ReferenceIdeal.Decay
-- ==== Proof.Algebra.lean ====
module

public import proofs.«01_k».proof.Proof.RefEntry

@[expose] public section

set_option maxRecDepth 16384

/-! The sum that the kernel takes the exponential of against the product that the reference takes, over boxes whose areas
    are at least the number that the reference keeps a union above. -/

noncomputable section

namespace Cert.Decay

open Cert.KernelIdeal.Decay (Row boxRow overlap ratio share)
open Cert.ReferenceIdeal.Decay (capped higher factor)
open Idealize.ShloMosaic

/-! ## The constants -/

/-- The least area, as a number. -/
def least : ℝ := 11258999 * (2 : ℝ) ^ (-50 : ℤ)
/-- It is positive. -/
theorem least_pos : 0 < least := by unfold least; positivity
/-- The word that spells it. -/
theorem ofBits_least : Ideal.ofBits .f32 0x322BCC77#32 = ((least : ℝ) : EReal) := by
  unfold least
  simp [Ideal.ofBits, Ideal.ieee, -EReal.coe_mul]
/-- The word that spells a half. -/
theorem ofBits_half : Ideal.ofBits .f32 0x3F000000#32 = ((1 / 2 : ℝ) : EReal) := by
  simp [Ideal.ofBits, Ideal.ieee, -EReal.coe_mul]; norm_num
/-- The word that spells minus two. -/
theorem ofBits_neg_two : Ideal.ofBits .f32 0xC0000000#32 = ((-2 : ℝ) : EReal) := by
  simp [Ideal.ofBits, Ideal.ieee, -EReal.coe_mul, -EReal.coe_neg]; norm_num

/-! ## Boxes of numbers -/

/-- A difference that is a number is one of numbers. -/
theorem sub_real (a b : EReal) (r : ℝ) (h : a - b = r) : ∃ u v : ℝ, a = u ∧ b = v := by
  induction a using EReal.rec <;> induction b using EReal.rec <;> simp_all

/-- A product that is positive and not infinite is one of numbers. -/
theorem mul_real (a b : EReal) (h0 : 0 < a * b) (h1 : a * b < ⊤) : ∃ u v : ℝ, a = u ∧ b = v := by
  have inf : ∀ u : ℝ, (0 < (⊤ : EReal) * u → ¬ (⊤ : EReal) * u < ⊤) ∧ (0 < (⊥ : EReal) * u → ¬ (⊥ : EReal) * u < ⊤) := by
    intro u
    rcases lt_trichotomy u 0 with hu | hu | hu
    · rw [EReal.top_mul_coe_of_neg hu, EReal.bot_mul_coe_of_neg hu]; simp
    · subst hu; simp
    · rw [EReal.top_mul_coe_of_pos hu, EReal.bot_mul_coe_of_pos hu]; simp
  induction a using EReal.rec with
  | coe u =>
    induction b using EReal.rec with
    | coe v => exact ⟨u, v, rfl, rfl⟩
    | bot => rw [mul_comm] at h0 h1; exact absurd h1 ((inf u).2 h0)
    | top => rw [mul_comm] at h0 h1; exact absurd h1 ((inf u).1 h0)
  | bot =>
    induction b using EReal.rec with
    | coe v => exact absurd h1 ((inf v).2 h0)
    | bot => simp at h1
    | top => simp at h0
  | top =>
    induction b using EReal.rec with
    | coe v => exact absurd h1 ((inf v).1 h0)
    | bot => simp at h0
    | top => simp at h1

/-- A row whose corners are numbers and whose area is that of its corners and not too small. -/
structure Good (p : Row) (x1 y1 x2 y2 : ℝ) : Prop where
  c0 : p 0 = x1
  c1 : p 1 = y1
  c2 : p 2 = x2
  c3 : p 3 = y2
  area : p 4 = (((x2 - x1) * (y2 - y1) : ℝ) : EReal)
  le : least ≤ (x2 - x1) * (y2 - y1)

/-- A box whose area is at least the least and not infinite is such a row. -/
theorem good_of_area (x : Cert.ReferenceIdeal.S5000x4.Idx → EReal) (s : Cert.ReferenceIdeal.S5000.Idx → EReal) (i : Fin 5000)
    (h0 : (least : EReal) ≤ (x (ix2 i 2) - x (ix2 i 0)) * (x (ix2 i 3) - x (ix2 i 1)))
    (h1 : (x (ix2 i 2) - x (ix2 i 0)) * (x (ix2 i 3) - x (ix2 i 1)) < ⊤) :
    ∃ x1 y1 x2 y2 : ℝ, Good (boxRow x s i) x1 y1 x2 y2 := by
  have hl : (0 : EReal) < (least : EReal) := by exact_mod_cast least_pos
  obtain ⟨w, v, hw, hv⟩ := mul_real _ _ (lt_of_lt_of_le hl h0) h1
  obtain ⟨x2, x1, e2, e0⟩ := sub_real _ _ _ hw
  obtain ⟨y2, y1, e3, e1⟩ := sub_real _ _ _ hv
  have ha : (x (ix2 i 2) - x (ix2 i 0)) * (x (ix2 i 3) - x (ix2 i 1)) = (((x2 - x1) * (y2 - y1) : ℝ) : EReal) := by
    rw [e2, e0, e3, e1]; norm_cast
  refine ⟨x1, y1, x2, y2, e0, e1, e2, e3, ha, ?_⟩
  rw [ha] at h0
  exact_mod_cast h0

/-! ## A pair of them -/

/-- The common area of two boxes of numbers. -/
def common (x1 y1 x2 y2 x1' y1' x2' y2' : ℝ) : ℝ :=
  max (min x2 x2' - max x1 x1') 0 * max (min y2 y2' - max y1 y1') 0

/-- Two boxes of which neither is too small have a union that is not. -/
theorem union_le (x1 y1 x2 y2 x1' y1' x2' y2' : ℝ) (h : least ≤ (x2 - x1) * (y2 - y1)) (h' : least ≤ (x2' - x1') * (y2' - y1')) :
    least ≤ (x2 - x1) * (y2 - y1) + (x2' - x1') * (y2' - y1') - common x1 y1 x2 y2 x1' y1' x2' y2' := by
  have hl := least_pos
  unfold common
  have a1 := min_le_left x2 x2'
  have a2 := le_max_left x1 x1'
  have a3 := min_le_left y2 y2'
  have a4 := le_max_left y1 y1'
  rcases le_or_gt (min x2 x2' - max x1 x1') 0 with hw | hw
  · rw [max_eq_right hw, zero_mul]; linarith
  rcases le_or_gt (min y2 y2' - max y1 y1') 0 with hv | hv
  · rw [max_eq_right hv, mul_zero]; linarith
  rw [max_eq_left hw.le, max_eq_left hv.le]
  have hm : (min x2 x2' - max x1 x1') * (min y2 y2' - max y1 y1') ≤ (x2 - x1) * (y2 - y1) :=
    mul_le_mul (by linarith) (by linarith) hv.le (by linarith)
  linarith

/-- The common area, read off two rows. -/
theorem overlap_eq {p q : Row} {x1 y1 x2 y2 x1' y1' x2' y2' : ℝ} (hp : Good p x1 y1 x2 y2) (hq : Good q x1' y1' x2' y2') :
    overlap p q = ((common x1 y1 x2 y2 x1' y1' x2' y2' : ℝ) : EReal) := by
  unfold overlap common
  rw [hp.c0, hp.c1, hp.c2, hp.c3, hq.c0, hq.c1, hq.c2, hq.c3]
  push_cast
  rfl

/-- The two programs' ratios of two rows are one number. -/
theorem ratio_eq {p q : Row} {x1 y1 x2 y2 x1' y1' x2' y2' : ℝ} (hp : Good p x1 y1 x2 y2) (hq : Good q x1' y1' x2' y2') :
    ∃ r : ℝ, ratio p q = r ∧ capped p q = r := by
  have hu := union_le x1 y1 x2 y2 x1' y1' x2' y2' hp.le hq.le
  have hU : p 4 + q 4 - overlap p q = (((x2 - x1) * (y2 - y1) + (x2' - x1') * (y2' - y1') - common x1 y1 x2 y2 x1' y1' x2' y2' : ℝ) : EReal) := by
    rw [overlap_eq hp hq, hp.area, hq.area]; norm_cast
  have hpos : (x2 - x1) * (y2 - y1) + (x2' - x1') * (y2' - y1') - common x1 y1 x2 y2 x1' y1' x2' y2' ≠ 0 :=
    (lt_of_lt_of_le least_pos hu).ne'
  have hc : capped p q = ratio p q := by
    unfold capped ratio
    rw [hU, ofBits_least, max_eq_left (by exact_mod_cast hu)]
  rw [hc]
  refine ⟨common x1 y1 x2 y2 x1' y1' x2' y2' * (1 / ((x2 - x1) * (y2 - y1) + (x2' - x1') * (y2' - y1') - common x1 y1 x2 y2 x1' y1' x2' y2')), ?_, ?_⟩
  all_goals
    unfold ratio
    rw [hU, Ideal.div_coe hpos, overlap_eq hp hq]
    norm_cast

/-- A truth value as a number. -/
theorem uitofp_bit (b : Bool) : FloatOps.uitofp (F := Ideal) .f32 (BitVec.ofBool b) = if b = true then (1 : EReal) else 0 := by
  cases b
  · show ((((0#1 : BitVec 1).toNat : ℝ)) : EReal) = 0
    simp
  · show ((((1#1 : BitVec 1).toNat : ℝ)) : EReal) = 1
    simp

/-- What a box adds in the one program and multiplies by in the other. -/
theorem share_factor {p q : Row} {x1 y1 x2 y2 x1' y1' x2' y2' : ℝ} (hp : Good p x1 y1 x2 y2) (hq : Good q x1' y1' x2' y2') :
    ∃ t : ℝ, share p q = t ∧ factor p q = ((Real.exp (t * -2) : ℝ) : EReal) := by
  obtain ⟨r, h1, h2⟩ := ratio_eq hp hq
  unfold share factor higher
  rw [h1, h2, ofBits_half]
  by_cases h : p 5 < q 5
  · refine ⟨r * r, by rw [if_pos h]; norm_cast, ?_⟩
    have he : Ideal.div (-((r : EReal) * r)) ((1 / 2 : ℝ) : EReal) = ((r * r * -2 : ℝ) : EReal) := by
      rw [Ideal.div_coe (by norm_num), ← EReal.coe_mul, ← EReal.coe_neg, ← EReal.coe_mul]
      exact congrArg _ (by ring)
    rw [decide_eq_true h, he, uitofp_bit, if_pos rfl, mul_one,
      show (1 : EReal) - 1 = 0 from EReal.sub_self (EReal.coe_ne_top 1) (EReal.coe_ne_bot 1), add_zero]
    rfl
  · refine ⟨0, by rw [if_neg h]; norm_cast, ?_⟩
    rw [decide_eq_false h, uitofp_bit, if_neg (by simp), mul_zero, zero_add, sub_zero, zero_mul, Real.exp_zero]
    rfl

/-- The exponential of the sum is the product. -/
theorem exp_sum_eq (p : Row) (q : Fin 5000 → Row) (t : Fin 5000 → ℝ) (h : ∀ j, share p (q j) = t j ∧ factor p (q j) = ((Real.exp (t j * -2) : ℝ) : EReal)) :
    Ideal.exp ((∑ j, share p (q j)) * Ideal.ofBits .f32 0xC0000000#32) = ∏ j, factor p (q j) := by
  have hs : ∀ S : Finset (Fin 5000), ∑ j ∈ S, share p (q j) = ((∑ j ∈ S, t j : ℝ) : EReal) := by
    intro S
    induction S using Finset.induction_on with
    | empty => simp
    | insert j S hj ih => rw [Finset.sum_insert hj, Finset.sum_insert hj, ih, (h j).1]; norm_cast
  have hf : ∀ S : Finset (Fin 5000), ∏ j ∈ S, factor p (q j) = ((Real.exp ((∑ j ∈ S, t j) * -2) : ℝ) : EReal) := by
    intro S
    induction S using Finset.induction_on with
    | empty => simp
    | insert j S hj ih =>
      rw [Finset.prod_insert hj, Finset.sum_insert hj, ih, (h j).2, add_mul, Real.exp_add]
      norm_cast
  rw [hs, hf, ofBits_neg_two, ← EReal.coe_mul]
  rfl

end Cert.Decay
-- ==== Proof.Condition.lean ====
module

public import proofs.«01_k».proof.Pre_boxes_have_area
public import proofs.«01_k».proof.Proof.Algebra
public import Idealize.ShloMosaic.Lib.ReduceAll

@[expose] public section

set_option maxRecDepth 16384

/-! What the precondition says of each box. -/

noncomputable section

namespace Cert.Pre_boxes_have_area

open Idealize.ShloMosaic
open Cert.Decay (least ofBits_least Good good_of_area)
open Cert.KernelIdeal.Decay (boxRow)

/-- The shapes the predicate works on fit together. -/
theorem facts : Facts where
  slices_S5000x4_S5000x1_0_2 := by decide
  shapeCasts_S5000x1_S5000 := by decide
  slices_S5000x4_S5000x1_0_0 := by decide
  slices_S5000x4_S5000x1_0_3 := by decide
  slices_S5000x4_S5000x1_0_1 := by decide
  bcast_S_S5000 := by decide
  reducesTo_S5000_S_d0 := by decide
  h_S_ := by decide

variable [Facts]
open Facts

/-- The word the condition compares the areas with from above is infinity. -/
theorem ofBits_infinity : Ideal.ofBits .f32 0x7F800000#32 = ⊤ := by
  simp [Ideal.ofBits, Ideal.ieee]

/-- Two decided bits whose conjunction is set were both decided true. -/
theorem both_of_andi {p q : Prop} [Decidable p] [Decidable q]
    (h : IntOp.andi (BitVec.ofBool (decide p)) (BitVec.ofBool (decide q)) = 1#1) : p ∧ q := by
  by_cases hp : p <;> by_cases hq : q <;> simp_all [IntOp.andi]

/-- Where the predicate holds, each box's area is at least the least and not infinite. -/
theorem area_of_fn (x : FVec Ideal S5000x4 .f32) (s : FVec Ideal S5000 .f32) (h : fn (F := Ideal) x s = fun _ => 1#1) (i : Fin 5000) :
    (least : EReal) ≤ (x (ix2 i 2) - x (ix2 i 0)) * (x (ix2 i 3) - x (ix2 i 1))
      ∧ (x (ix2 i 2) - x (ix2 i 0)) * (x (ix2 i 3) - x (ix2 i 1)) < (⊤ : EReal) := by
  have h1 := congrFun h (Shape.Idx.first h_S_)
  unfold fn at h1
  have hsub : Subsingleton S_.Idx := ⟨fun a b => funext fun z => z.elim0⟩
  have h2 := Host.reduce_andi_all _ _ _ _ _ h1 (ix1 i)
  pointwise at h2
  rw [ofBits_least, ofBits_infinity] at h2
  exact both_of_andi h2

/-- So each box is one of numbers. -/
theorem good (x : FVec Ideal S5000x4 .f32) (s : FVec Ideal S5000 .f32) (h : fn (F := Ideal) x s = fun _ => 1#1) (i : Fin 5000) :
    ∃ x1 y1 x2 y2 : ℝ, Good (boxRow x s i) x1 y1 x2 y2 :=
  good_of_area x s i (area_of_fn x s h i).1 (area_of_fn x s h i).2

end Cert.Pre_boxes_have_area
-- ==== Proof.Equal.lean ====
/- The equation between the two programs' results: the kernel's score times the exponential of a sum is the reference's
   score times a product. -/
module

public import proofs.«01_k».proof.Defs
public import proofs.«01_k».proof.Proof.Entry
public import proofs.«01_k».proof.Proof.Condition

@[expose] public section

noncomputable section

namespace Cert.Proof

open Idealize.ShloMosaic Idealize.ShloMosaic.TcCoe
open Cert.Decay (Good share_factor exp_sum_eq)

/-- From equal arguments, whose boxes all have area, the two programs compute the same scores. -/
theorem results_eq [Cert.Pre_boxes_have_area.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Pre_KernelIdeal_boxes_have_area m) (c : Dev Cert.KernelIdeal.nD)
    (h0 : Cert.ReferenceIdeal.Decay.inBoxes m' c = Cert.KernelIdeal.Decay.inBoxes m c)
    (h1 : Cert.ReferenceIdeal.Decay.inScores m' c = Cert.KernelIdeal.Decay.inScores m c) :
    Cert.ReferenceIdeal.Decay.outIn m' c = (Cert.KernelIdeal.Decay.result m c : Cert.KernelIdeal.S5000.Idx → EReal) := by
  have good := Cert.Pre_boxes_have_area.good _ _ (hpre c)
  funext y
  obtain ⟨i, rfl⟩ : ∃ i : Fin 5000, y = ix1 i := ⟨y 0, eq_ix1 y⟩
  refine Eq.trans ?_ (Cert.KernelIdeal.Decay.result_apply m c i).symm
  rw [Cert.ReferenceIdeal.Decay.out_apply]
  unfold Cert.ReferenceIdeal.Decay.boxOf
  rw [h0, h1]
  refine congrArg (Cert.KernelIdeal.Decay.inScores m c (ix1 i) * ·) ?_
  obtain ⟨x1, y1, x2, y2, hi⟩ := good i
  choose t ht using fun j : Fin 5000 => let ⟨_, _, _, _, hj⟩ := good j; share_factor hi hj
  exact (exp_sum_eq _ _ t ht).symm

end Cert.Proof

end
-- ==== Proof.lean ====
/- The proof of the claim: it puts together the runs of the two programs and the equation between their results. -/
module

public import proofs.«01_k».proof.Defs
public import proofs.«01_k».proof.Proof.Result
public import proofs.«01_k».proof.Proof.KernelFrame
public import proofs.«01_k».proof.Proof.Equal
public import proofs.«01_k».proof.Proof.Gen.Kernel
public import proofs.«01_k».proof.Proof.Gen.KernelIdeal
public import proofs.«01_k».proof.Proof.Gen.ReferenceIdeal.Run
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The kernel over the extended reals ends with its arguments as launched and every counter at zero. -/
theorem frame_ideal : Cert.quiescent_KernelIdeal := fun m ρ _ =>
  (θ_run Cert.KernelIdeal.defs _ _).mono (fun _ h => ⟨fun c => (h.1 c).2, h.2⟩) (Cert.KernelIdeal.Decay.run (F := Ideal) m ρ)

/-- The reference ends with its arguments as launched; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where every box has area, the two programs end with the same scores. -/
theorem algebraic [Cert.Pre_boxes_have_area.Facts] : Cert.algebraic_KernelIdeal_ReferenceIdeal_pre_boxes_have_area :=
  fun m ρ m' ρ' hpre hargs => ⟨Cert.KernelIdeal.Decay.result m,
    (θ_run Cert.KernelIdeal.defs _ _).mono (fun _ h => h.1) (Cert.KernelIdeal.Decay.run (F := Ideal) m ρ),
    (θ_run Cert.ReferenceIdeal.defs _ _).mono
      (fun r h c => ⟨(h c).1.trans (results_eq m m' hpre c (hargs c).1 (hargs c).2), (h c).2⟩)
      (Cert.ReferenceIdeal.Value.run (F := Ideal) m' ρ')⟩

/-- All the claims. -/
theorem claim : Cert.Claim := ⟨Cert.Kernel.Gen.facts, Cert.KernelIdeal.Gen.facts, Cert.ReferenceIdeal.Gen.facts,
  Cert.Pre_boxes_have_area.facts, frame_kernel, frame_ideal, fun m ρ _ => frame_ideal m ρ trivial, frame_reference,
  fun m ρ _ => frame_reference m ρ trivial, trivial, letI := Cert.Pre_boxes_have_area.facts; algebraic⟩

end Cert.Proof

end
